-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 16384]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S_ : Shape := ⟨0, ![]⟩
abbrev S2048x4096 : Shape := ⟨2, ![2048, 4096]⟩
abbrev S2048x2048 : Shape := ⟨2, ![2048, 2048]⟩
abbrev S1024x2048 : Shape := ⟨2, ![1024, 2048]⟩
abbrev S1024x1024 : Shape := ⟨2, ![1024, 1024]⟩
abbrev S2x512x2048 : Shape := ⟨3, ![2, 512, 2048]⟩
abbrev S2x1024x1024 : Shape := ⟨3, ![2, 1024, 1024]⟩
abbrev S2x512x1024 : Shape := ⟨3, ![2, 512, 1024]⟩
abbrev S8 : Shape := ⟨1, ![8]⟩
abbrev S2 : Shape := ⟨1, ![2]⟩
abbrev S1 : Shape := ⟨1, ![1]⟩
abbrev S1x1024x1024 : Shape := ⟨3, ![1, 1024, 1024]⟩
abbrev S1x512x1024 : Shape := ⟨3, ![1, 512, 1024]⟩
abbrev S512x1024 : Shape := ⟨2, ![512, 1024]⟩
abbrev S512x2048 : Shape := ⟨2, ![512, 2048]⟩
abbrev S1x512x2048 : Shape := ⟨3, ![1, 512, 2048]⟩

abbrev nBuf : Space → Nat
  | .hbm => 29
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S2048x4096, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S2048x4096, .f32⟩
  | .hbm, ⟨26, _⟩ => ⟨S2048x4096, .bf16⟩
  | .hbm, ⟨27, _⟩ => ⟨S2048x4096, .bf16⟩
  | .hbm, ⟨28, _⟩ => ⟨S2048x2048, .f32⟩
  | .local _ .vmem, ⟨0, _⟩ => ⟨S2048x4096, .bf16⟩
  | .local _ .vmem, ⟨1, _⟩ => ⟨S1024x2048, .bf16⟩
  | .local _ .vmem, ⟨2, _⟩ => ⟨S1024x2048, .bf16⟩
  | .local _ .vmem, ⟨3, _⟩ => ⟨S2048x2048, .bf16⟩
  | .local _ .vmem, ⟨4, _⟩ => ⟨S1024x1024, .f32⟩
  | .local _ .vmem, ⟨5, _⟩ => ⟨S2x512x2048, .f32⟩
  | .local _ .vmem, ⟨6, _⟩ => ⟨S2x1024x1024, .bf16⟩
  | .local _ .vmem, ⟨7, _⟩ => ⟨S2x512x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_v13 : Ref sig .tc := ⟨.hbm, 23, rfl⟩
abbrev main_c_8 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem1_1 : DmaSem sig := 2
abbrev barrier0 : Sem sig := 0

abbrev nD : Nat := 4
abbrev τ : Topo := Topo.v7x

variable {F : FTy → Type} [FloatOps F]

abbrev grid0 : Pipeline.Grid := ⟨2, ![4, 2], ![false, false]⟩

def k0_off1 (i : grid0.Coords) (d0 : Dev nD) : Fin 2 → Nat :=
  let arg0 : BitVec 32 := BitVec.ofNat 32 (i 0).val
  let c0_i32 : BitVec 32 := 0#32
  let v8 : BitVec 1 := Scalar.cmpi .eq arg0 c0_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1_i32_5 : BitVec 32 := 1#32
  let v10 : BitVec 1 := Scalar.cmpi .eq arg0 c1_i32_5
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.subi c1_i32_6 v2
  let c2_i32_7 : BitVec 32 := 2#32
  let v12 : BitVec 1 := Scalar.cmpi .eq arg0 c2_i32_7
  let v13 : BitVec 32 := Scalar.select v12 v5 v2
  let v14 : BitVec 32 := Scalar.select v10 v11 v13
  let v15 : BitVec 32 := Scalar.select v8 v9 v14
  let c1024_i32 : BitVec 32 := 1024#32
  let v16 : BitVec 32 := Scalar.muli v15 c1024_i32
  let v29 : Index := Scalar.indexCast v16
  let arg1 : BitVec 32 := BitVec.ofNat 32 (i 1).val
  let c2048_i32 : BitVec 32 := 2048#32
  let v28 : BitVec 32 := Scalar.muli arg1 c2048_i32
  let v30 : Index := Scalar.indexCast v28
  ![v29.toNat, v30.toNat]
def k0_cond2 (i : grid0.Coords) : BitVec 1 :=
  let arg1 : BitVec 32 := BitVec.ofNat 32 (i 1).val
  let c1_i32_18 : BitVec 32 := 1#32
  let v39 : BitVec 1 := Scalar.cmpi .eq arg1 c1_i32_18
  let v40 : BitVec 32 := Scalar.extui v39
  let c0_i32_19 : BitVec 32 := 0#32
  let v41 : BitVec 1 := Scalar.cmpi .ne v40 c0_i32_19
  v41

def k0_off2 (i : grid0.Coords) (d0 : Dev nD) : Fin 2 → Nat :=
  let arg0 : BitVec 32 := BitVec.ofNat 32 (i 0).val
  let c0_i32 : BitVec 32 := 0#32
  let v8 : BitVec 1 := Scalar.cmpi .eq arg0 c0_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c1_i32_5 : BitVec 32 := 1#32
  let v10 : BitVec 1 := Scalar.cmpi .eq arg0 c1_i32_5
  let c1_i32_6 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v11 : BitVec 32 := Scalar.subi c1_i32_6 v2
  let c2_i32_7 : BitVec 32 := 2#32
  let v12 : BitVec 1 := Scalar.cmpi .eq arg0 c2_i32_7
  let v13 : BitVec 32 := Scalar.select v12 v5 v2
  let v14 : BitVec 32 := Scalar.select v10 v11 v13
  let v15 : BitVec 32 := Scalar.select v8 v9 v14
  let c1024_i32 : BitVec 32 := 1024#32
  let v16 : BitVec 32 := Scalar.muli v15 c1024_i32
  let v71 : Index := Scalar.indexCast v16
  let c2_i32_8 : BitVec 32 := 2#32
  let c0_i32_9 : BitVec 32 := 0#32
  let v17 : BitVec 1 := Scalar.cmpi .eq c2_i32_8 c0_i32_9
  let c1_i32_10 : BitVec 32 := 1#32
  let v18 : BitVec 32 := Scalar.select v17 c1_i32_10 c2_i32_8
  let v19 : BitVec 32 := Scalar.remsi arg0 v18
  let c0_i32_12 : BitVec 32 := 0#32
  let v21 : BitVec 1 := Scalar.cmpi .slt v19 c0_i32_12
  let c0_i32_13 : BitVec 32 := 0#32
  let v22 : BitVec 1 := Scalar.cmpi .slt v18 c0_i32_13
  let v23 : BitVec 1 := Scalar.xori v21 v22
  let c0_i32_11 : BitVec 32 := 0#32
  let v20 : BitVec 1 := Scalar.cmpi .ne v19 c0_i32_11
  let v24 : BitVec 1 := Scalar.andi v23 v20
  let v25 : BitVec 32 := Scalar.addi v19 v18
  let v26 : BitVec 32 := Scalar.select v24 v25 v19
  let c1024_i32_14 : BitVec 32 := 1024#32
  let v27 : BitVec 32 := Scalar.muli v26 c1024_i32_14
  let v72 : Index := Scalar.indexCast v27
  ![v71.toNat, v72.toNat]
def k0_cond3 (i : grid0.Coords) : BitVec 1 :=
  let arg0 : BitVec 32 := BitVec.ofNat 32 (i 0).val
  let c0_i32_23 : BitVec 32 := 0#32
  let v48 : BitVec 1 := Scalar.cmpi .eq arg0 c0_i32_23
  let arg1 : BitVec 32 := BitVec.ofNat 32 (i 1).val
  let c1_i32_24 : BitVec 32 := 1#32
  let v49 : BitVec 1 := Scalar.cmpi .eq arg1 c1_i32_24
  let v50 : BitVec 1 := Scalar.andi v48 v49
  let v51 : BitVec 32 := Scalar.extui v50
  let c0_i32_25 : BitVec 32 := 0#32
  let v52 : BitVec 1 := Scalar.cmpi .ne v51 c0_i32_25
  v52

def k0_dev1 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v69 : BitVec 32 := Scalar.muli v2 c2_i32_35
  let v70 : BitVec 32 := Scalar.addi c0_i32_36 v69
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v71 : BitVec 32 := Scalar.muli v6 c1_i32_37
  let v72 : BitVec 32 := Scalar.addi v70 v71
  v72.toNat
def k0_dev2 (d0 : Dev nD) : Nat :=
  let c0_i32_40 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_39 : BitVec 32 := 2#32
  let v73 : BitVec 32 := Scalar.muli v7 c2_i32_39
  let v74 : BitVec 32 := Scalar.addi c0_i32_40 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v75 : BitVec 32 := Scalar.muli v5 c1_i32_41
  let v76 : BitVec 32 := Scalar.addi v74 v75
  v76.toNat
def k0_off3 (d0 : Dev nD) : Fin 2 → Nat :=
  let c1_i32_43 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v77 : BitVec 32 := Scalar.subi c1_i32_43 v5
  let c1024_i32_44 : BitVec 32 := 1024#32
  let v78 : BitVec 32 := Scalar.muli v77 c1024_i32_44
  let c0_i32_53 : BitVec 32 := 0#32
  ![v78.toNat, 0]
def k0_dev3 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_48 : BitVec 32 := 2#32
  let v79 : BitVec 32 := Scalar.muli v2 c2_i32_48
  let v80 : BitVec 32 := Scalar.addi c0_i32_49 v79
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_50 : BitVec 32 := 1#32
  let v81 : BitVec 32 := Scalar.muli v6 c1_i32_50
  let v82 : BitVec 32 := Scalar.addi v80 v81
  v82.toNat
def k0_cond4 (i : grid0.Coords) : BitVec 1 :=
  let arg0 : BitVec 32 := BitVec.ofNat 32 (i 0).val
  let c1_i32_26 : BitVec 32 := 1#32
  let v53 : BitVec 1 := Scalar.cmpi .eq arg0 c1_i32_26
  let arg1 : BitVec 32 := BitVec.ofNat 32 (i 1).val
  let c1_i32_27 : BitVec 32 := 1#32
  let v54 : BitVec 1 := Scalar.cmpi .eq arg1 c1_i32_27
  let v55 : BitVec 1 := Scalar.andi v53 v54
  let v56 : BitVec 32 := Scalar.extui v55
  let c0_i32_28 : BitVec 32 := 0#32
  let v57 : BitVec 1 := Scalar.cmpi .ne v56 c0_i32_28
  v57

def k0_off4 (d0 : Dev nD) : Fin 2 → Nat :=
  let c1_i32_34 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v68 : BitVec 32 := Scalar.subi c1_i32_34 v2
  let c1024_i32_35 : BitVec 32 := 1024#32
  let v69 : BitVec 32 := Scalar.muli v68 c1024_i32_35
  let c1024_i32_43 : BitVec 32 := 1024#32
  ![v69.toNat, 1024]
def k0_dev4 (d0 : Dev nD) : Nat :=
  let c0_i32_39 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_38 : BitVec 32 := 2#32
  let v70 : BitVec 32 := Scalar.muli v7 c2_i32_38
  let v71 : BitVec 32 := Scalar.addi c0_i32_39 v70
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v72 : BitVec 32 := Scalar.muli v5 c1_i32_40
  let v73 : BitVec 32 := Scalar.addi v71 v72
  v73.toNat
def k0_cond5 (i : grid0.Coords) : BitVec 1 :=
  let arg0 : BitVec 32 := BitVec.ofNat 32 (i 0).val
  let c2_i32_29 : BitVec 32 := 2#32
  let v58 : BitVec 1 := Scalar.cmpi .eq arg0 c2_i32_29
  let arg1 : BitVec 32 := BitVec.ofNat 32 (i 1).val
  let c1_i32_30 : BitVec 32 := 1#32
  let v59 : BitVec 1 := Scalar.cmpi .eq arg1 c1_i32_30
  let v60 : BitVec 1 := Scalar.andi v58 v59
  let v61 : BitVec 32 := Scalar.extui v60
  let c0_i32_31 : BitVec 32 := 0#32
  let v62 : BitVec 1 := Scalar.cmpi .ne v61 c0_i32_31
  v62

def k0_off5 (d0 : Dev nD) : Fin 2 → Nat :=
  let c1_i32_34 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v68 : BitVec 32 := Scalar.subi c1_i32_34 v5
  let c1024_i32_35 : BitVec 32 := 1024#32
  let v69 : BitVec 32 := Scalar.muli v68 c1024_i32_35
  let c0_i32_40 : BitVec 32 := 0#32
  ![v69.toNat, 0]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_52 : BitVec 32 := 1024#32
  let v84 : BitVec 32 := Scalar.muli v5 c1024_i32_52
  let v87 : Index := Scalar.indexCast v84
  let c0_56 : Index := 0#32
  ![v87.toNat, 0]
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_58 : BitVec 32 := 1024#32
  let v97 : BitVec 32 := Scalar.muli v5 c1024_i32_58
  let c1_i32_59 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v98 : BitVec 32 := Scalar.subi c1_i32_59 v2
  let c512_i32_60 : BitVec 32 := 512#32
  let v99 : BitVec 32 := Scalar.muli v98 c512_i32_60
  let v100 : BitVec 32 := Scalar.addi v97 v99
  let c0_i32_69 : BitVec 32 := 0#32
  ![v100.toNat, 0]
def k0_dev5 (d0 : Dev nD) : Nat :=
  let c0_i32_65 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_64 : BitVec 32 := 2#32
  let v101 : BitVec 32 := Scalar.muli v7 c2_i32_64
  let v102 : BitVec 32 := Scalar.addi c0_i32_65 v101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v103 : BitVec 32 := Scalar.muli v5 c1_i32_66
  let v104 : BitVec 32 := Scalar.addi v102 v103
  v104.toNat
def k0_cond6 (i : grid0.Coords) : BitVec 1 :=
  let arg0 : BitVec 32 := BitVec.ofNat 32 (i 0).val
  let c3_i32 : BitVec 32 := 3#32
  let v63 : BitVec 1 := Scalar.cmpi .eq arg0 c3_i32
  let arg1 : BitVec 32 := BitVec.ofNat 32 (i 1).val
  let c1_i32_32 : BitVec 32 := 1#32
  let v64 : BitVec 1 := Scalar.cmpi .eq arg1 c1_i32_32
  let v65 : BitVec 1 := Scalar.andi v63 v64
  let v66 : BitVec 32 := Scalar.extui v65
  let c0_i32_33 : BitVec 32 := 0#32
  let v67 : BitVec 1 := Scalar.cmpi .ne v66 c0_i32_33
  v67

def k0_off8 (d0 : Dev nD) : Fin 2 → Nat :=
  let c1_i32_34 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v68 : BitVec 32 := Scalar.subi c1_i32_34 v2
  let c1024_i32_35 : BitVec 32 := 1024#32
  let v69 : BitVec 32 := Scalar.muli v68 c1024_i32_35
  let c1024_i32_39 : BitVec 32 := 1024#32
  ![v69.toNat, 1024]
def k0_off9 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_51 : BitVec 32 := 1024#32
  let v84 : BitVec 32 := Scalar.muli v2 c1024_i32_51
  let v87 : Index := Scalar.indexCast v84
  let c1024 : Index := 1024#32
  ![v87.toNat, 1024]
def k0_off10 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_55 : BitVec 32 := 1024#32
  let v97 : BitVec 32 := Scalar.muli v2 c1024_i32_55
  let c1_i32_56 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v98 : BitVec 32 := Scalar.subi c1_i32_56 v5
  let c512_i32_57 : BitVec 32 := 512#32
  let v99 : BitVec 32 := Scalar.muli v98 c512_i32_57
  let v100 : BitVec 32 := Scalar.addi v97 v99
  let c1024_i32_65 : BitVec 32 := 1024#32
  ![v100.toNat, 1024]
def k0_dev6 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v101 : BitVec 32 := Scalar.muli v2 c2_i32_60
  let v102 : BitVec 32 := Scalar.addi c0_i32_61 v101
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_62 : BitVec 32 := 1#32
  let v103 : BitVec 32 := Scalar.muli v6 c1_i32_62
  let v104 : BitVec 32 := Scalar.addi v102 v103
  v104.toNat
def k0_off11 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_66 : BitVec 32 := 1024#32
  let v112 : BitVec 32 := Scalar.muli v5 c1024_i32_66
  let c1_i32_67 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v113 : BitVec 32 := Scalar.subi c1_i32_67 v2
  let c512_i32_68 : BitVec 32 := 512#32
  let v114 : BitVec 32 := Scalar.muli v113 c512_i32_68
  let v115 : BitVec 32 := Scalar.addi v112 v114
  let c0_i32_73 : BitVec 32 := 0#32
  ![v115.toNat, 0]
def k0_off12 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_20 : BitVec 32 := 1024#32
  let v42 : BitVec 32 := Scalar.muli v5 c1024_i32_20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v43 : BitVec 32 := Scalar.muli v2 c512_i32
  let v44 : BitVec 32 := Scalar.addi v42 v43
  let v132 : Index := Scalar.indexCast v44
  let c0_88 : Index := 0#32
  ![v132.toNat, 0]
def k0_off13 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_20 : BitVec 32 := 1024#32
  let v42 : BitVec 32 := Scalar.muli v5 c1024_i32_20
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v43 : BitVec 32 := Scalar.muli v2 c512_i32
  let v44 : BitVec 32 := Scalar.addi v42 v43
  let c0_i32_95 : BitVec 32 := 0#32
  ![v44.toNat, 0]
def k0_dev7 (d0 : Dev nD) : Nat :=
  let c0_i32_93 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_92 : BitVec 32 := 2#32
  let v142 : BitVec 32 := Scalar.muli v7 c2_i32_92
  let v143 : BitVec 32 := Scalar.addi c0_i32_93 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v144 : BitVec 32 := Scalar.muli v5 c1_i32_94
  let v145 : BitVec 32 := Scalar.addi v143 v144
  v145.toNat
def k0_off14 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_21 : BitVec 32 := 1024#32
  let v45 : BitVec 32 := Scalar.muli v2 c1024_i32_21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_22 : BitVec 32 := 512#32
  let v46 : BitVec 32 := Scalar.muli v5 c512_i32_22
  let v47 : BitVec 32 := Scalar.addi v45 v46
  let v172 : Index := Scalar.indexCast v47
  let c1024_119 : Index := 1024#32
  ![v172.toNat, 1024]
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_21 : BitVec 32 := 1024#32
  let v45 : BitVec 32 := Scalar.muli v2 c1024_i32_21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_22 : BitVec 32 := 512#32
  let v46 : BitVec 32 := Scalar.muli v5 c512_i32_22
  let v47 : BitVec 32 := Scalar.addi v45 v46
  let c1024_i32_125 : BitVec 32 := 1024#32
  ![v47.toNat, 1024]
def k0_dev8 (d0 : Dev nD) : Nat :=
  let c0_i32_123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_122 : BitVec 32 := 2#32
  let v182 : BitVec 32 := Scalar.muli v2 c2_i32_122
  let v183 : BitVec 32 := Scalar.addi c0_i32_123 v182
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_124 : BitVec 32 := 1#32
  let v184 : BitVec 32 := Scalar.muli v6 c1_i32_124
  let v185 : BitVec 32 := Scalar.addi v183 v184
  v185.toNat
def k0_off16 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_140 : BitVec 32 := 1024#32
  let v205 : BitVec 32 := Scalar.muli v5 c1024_i32_140
  let c0_i32_146 : BitVec 32 := 0#32
  ![v205.toNat, 0]
def k0_dev9 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_143 : BitVec 32 := 2#32
  let v206 : BitVec 32 := Scalar.muli v2 c2_i32_143
  let v207 : BitVec 32 := Scalar.addi c0_i32_144 v206
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_145 : BitVec 32 := 1#32
  let v208 : BitVec 32 := Scalar.muli v6 c1_i32_145
  let v209 : BitVec 32 := Scalar.addi v207 v208
  v209.toNat
def k0_off17 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_161 : BitVec 32 := 1024#32
  let v229 : BitVec 32 := Scalar.muli v2 c1024_i32_161
  let c1024_i32_166 : BitVec 32 := 1024#32
  ![v229.toNat, 1024]
def k0_dev10 (d0 : Dev nD) : Nat :=
  let c0_i32_164 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_163 : BitVec 32 := 2#32
  let v230 : BitVec 32 := Scalar.muli v7 c2_i32_163
  let v231 : BitVec 32 := Scalar.addi c0_i32_164 v230
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_165 : BitVec 32 := 1#32
  let v232 : BitVec 32 := Scalar.muli v5 c1_i32_165
  let v233 : BitVec 32 := Scalar.addi v231 v232
  v233.toNat
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x16384, .f32⟩
  | .hbm, ⟨2, _⟩ => ⟨S16384x2048, .f32⟩
  | .hbm, ⟨3, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Net.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Rounds
public import Idealize.ShloMosaic.Lib.Memref
public import Idealize.ShloMosaic.Lib.Tactic

/-! The mesh, the cells and the regions the kernel exchanges: which device each exchange goes to,
which semaphore cell it is counted on, and which part of which buffer it reads and writes. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The mesh -/

/-- The neighbour along the y axis. -/
def yn (c : Dev nD) : Dev nD := ⟨(2 * (c.val / 2) + 1) - c.val % 2, by revert c; decide⟩
/-- The neighbour along the x axis. -/
def xn (c : Dev nD) : Dev nD := ⟨(c.val % 2 + 2) - 2 * (c.val / 2), by revert c; decide⟩
theorem yn_yn (c : Dev nD) : yn (yn c) = c := by revert c; decide
theorem xn_xn (c : Dev nD) : xn (xn c) = c := by revert c; decide

/-- The other device of exchange `j`: exchanges 0, 3, 5, 6 go along y, exchanges 1, 2, 4, 7 along x. -/
def tgt (c : Dev nD) (j : Fin 8) : Dev nD := if j = 0 ∨ j = 3 ∨ j = 5 ∨ j = 6 then yn c else xn c
theorem tgt_tgt (c : Dev nD) (j : Fin 8) : tgt (tgt c j) j = c := by revert c j; decide

/-- The device at mesh position `(a, b)`. -/
def dv (a b : ℕ) : Dev nD := ⟨2 * (a % 2) + b % 2, by show _ < 4; omega⟩

/-! ## The cells -/

abbrev barS : Sem sig := (SemArray.scalar (sig.barrier 0 rfl) : Sems sig S_).sem
/-- The kernel's own semaphores by number: 0–7 the send cells, 8–15 the receive cells, 16 and 17 the two cells of
    the copies out. -/
def dsem (j : Fin 18) : DmaSem sig := ⟨3 + j.val, by show _ < 21; omega⟩
abbrev sS (j : Fin 8) : DmaSem sig := dsem ⟨j.val, by omega⟩
abbrev rS (j : Fin 8) : DmaSem sig := dsem ⟨8 + j.val, by omega⟩
abbrev cS (i : Fin 2) : DmaSem sig := dsem ⟨16 + i.val, by omega⟩

abbrev barC (c : Dev nD) : GSem nD τ sig := ((c : Thread nD τ), .reg barS)
abbrev dC (c : Dev nD) (j : Fin 18) : GSem nD τ sig := ((c : Thread nD τ), .dma (dsem j))
abbrev sC (c : Dev nD) (j : Fin 8) : GSem nD τ sig := ((c : Thread nD τ), .dma (sS j))
abbrev rC (c : Dev nD) (j : Fin 8) : GSem nD τ sig := ((c : Thread nD τ), .dma (rS j))
abbrev cC (c : Dev nD) (i : Fin 2) : GSem nD τ sig := ((c : Thread nD τ), .dma (cS i))

/-! ## The regions -/

abbrev gM : Memref sig .tc .vmem S2048x2048 .bf16 := Memref.whole cc0_scratch0
abbrev accM : Memref sig .tc .vmem S1024x1024 .f32 := Memref.whole cc0_scratch1
abbrev stM : Memref sig .tc .vmem S2x512x2048 .f32 := Memref.whole cc0_scratch2
abbrev raM : Memref sig .tc .vmem S2x1024x1024 .bf16 := Memref.whole cc0_scratch3
abbrev rbM : Memref sig .tc .vmem S2x512x1024 .bf16 := Memref.whole cc0_scratch4
abbrev outM : Memref sig .tc .hbm S2048x2048 .f32 := Memref.whole main_v17

/-- A half-size tile of the gather buffer, and a quarter-size one. -/
abbrev gT (o : Fin 2 → ℕ) (h : ∀ a, o a + S1024x1024.size a ≤ S2048x2048.size a) : Memref sig .tc .vmem S1024x1024 .bf16 :=
  gM.slice (Rect.unit (s := S2048x2048) o S1024x1024.size h) (fun _ => rfl)
abbrev gQ (o : Fin 2 → ℕ) (h : ∀ a, o a + S512x1024.size a ≤ S2048x2048.size a) : Memref sig .tc .vmem S512x1024 .bf16 :=
  gM.slice (Rect.unit (s := S2048x2048) o S512x1024.size h) (fun _ => rfl)

theorem in3 (c : Dev nD) : ∀ a, k0_off3 c a + S1024x1024.size a ≤ S2048x2048.size a := k0_off3_inb (grid0.coords t0_1) c (by decide +kernel)
theorem in4 (c : Dev nD) : ∀ a, k0_off4 c a + S1024x1024.size a ≤ S2048x2048.size a := k0_off4_inb (grid0.coords t0_3) c (by decide +kernel)
theorem in6 (c : Dev nD) : ∀ a, k0_off6 c a + S1024x1024.size a ≤ S2048x2048.size a := k0_off6_inb (grid0.coords t0_5) c (by decide +kernel)
theorem in7 (c : Dev nD) : ∀ a, k0_off7 c a + S512x1024.size a ≤ S2048x2048.size a := k0_off7_inb (grid0.coords t0_5) c (by decide +kernel)
theorem in9 (c : Dev nD) : ∀ a, k0_off9 c a + S1024x1024.size a ≤ S2048x2048.size a := k0_off9_inb (grid0.coords t0_7) c (by decide +kernel)
theorem in10 (c : Dev nD) : ∀ a, k0_off10 c a + S512x1024.size a ≤ S2048x2048.size a := k0_off10_inb (grid0.coords t0_7) c (by decide +kernel)
theorem in12 (c : Dev nD) : ∀ a, k0_off12 c a + S512x1024.size a ≤ S2048x2048.size a := k0_off12_inb (grid0.coords t0_7) c (by decide +kernel)
theorem in14 (c : Dev nD) : ∀ a, k0_off14 c a + S512x1024.size a ≤ S2048x2048.size a := k0_off14_inb (grid0.coords t0_7) c (by decide +kernel)

/-- The tile sent along y (columns of the first half), the one kept; the tile sent along x (second half), the one kept. -/
abbrev gA0 (c : Dev nD) := gT (k0_off3 c) (in3 c)
abbrev gB0 (c : Dev nD) := gT (k0_off6 c) (in6 c)
abbrev gA1 (c : Dev nD) := gT (k0_off4 c) (in4 c)
abbrev gB1 (c : Dev nD) := gT (k0_off9 c) (in9 c)
/-- Of the kept tiles, the quarter sent on and the quarter finished here. -/
abbrev gS0 (c : Dev nD) := gQ (k0_off7 c) (in7 c)
abbrev gQ0 (c : Dev nD) := gQ (k0_off12 c) (in12 c)
abbrev gS1 (c : Dev nD) := gQ (k0_off10 c) (in10 c)
abbrev gQ1 (c : Dev nD) := gQ (k0_off14 c) (in14 c)

theorem gT_congr {o o' : Fin 2 → ℕ} (e : o = o') (h h') : gT o h = gT o' h' := by subst e; rfl
theorem gQ_congr {o o' : Fin 2 → ℕ} (e : o = o') (h h') : gQ o h = gQ o' h' := by subst e; rfl

theorem gA0_yn (c : Dev nD) : gA0 (yn c) = gB0 c := gT_congr (by revert c; decide) _ _
theorem gA1_xn (c : Dev nD) : gA1 (xn c) = gB1 c := gT_congr (by revert c; decide) _ _
theorem gB0_yn (c : Dev nD) : gB0 (yn c) = gA0 c := gT_congr (by revert c; decide) _ _
theorem gB1_xn (c : Dev nD) : gB1 (xn c) = gA1 c := gT_congr (by revert c; decide) _ _
theorem gS0_xn (c : Dev nD) : gS0 (xn c) = gQ0 c := gQ_congr (by revert c; decide) _ _
theorem gS1_yn (c : Dev nD) : gS1 (yn c) = gQ1 c := gQ_congr (by revert c; decide) _ _
theorem gQ0_xn (c : Dev nD) : gQ0 (xn c) = gS0 c := gQ_congr (by revert c; decide) _ _
theorem gQ1_yn (c : Dev nD) : gQ1 (yn c) = gS1 c := gQ_congr (by revert c; decide) _ _

/-- The landing slots: unsqueezed, and as the copies name them. -/
abbrev raU (i : Fin 2) : Memref sig .tc .vmem S1x1024x1024 .bf16 :=
  match i with
  | 0 => raM.slice (Rect.unit (s := S2x1024x1024) ![0, 0, 0] S1x1024x1024.size inb_S2x1024x1024_S1x1024x1024_0_0_0) (fun _ => rfl)
  | 1 => raM.slice (Rect.unit (s := S2x1024x1024) ![1, 0, 0] S1x1024x1024.size inb_S2x1024x1024_S1x1024x1024_1_0_0) (fun _ => rfl)
abbrev rbU (i : Fin 2) : Memref sig .tc .vmem S1x512x1024 .bf16 :=
  match i with
  | 0 => rbM.slice (Rect.unit (s := S2x512x1024) ![0, 0, 0] S1x512x1024.size inb_S2x512x1024_S1x512x1024_0_0_0) (fun _ => rfl)
  | 1 => rbM.slice (Rect.unit (s := S2x512x1024) ![1, 0, 0] S1x512x1024.size inb_S2x512x1024_S1x512x1024_1_0_0) (fun _ => rfl)
abbrev stU (i : Fin 2) : Memref sig .tc .vmem S1x512x2048 .f32 :=
  match i with
  | 0 => stM.slice (Rect.unit (s := S2x512x2048) ![0, 0, 0] S1x512x2048.size inb_S2x512x2048_S1x512x2048_0_0_0) (fun _ => rfl)
  | 1 => stM.slice (Rect.unit (s := S2x512x2048) ![1, 0, 0] S1x512x2048.size inb_S2x512x2048_S1x512x2048_1_0_0) (fun _ => rfl)
abbrev raR (i : Fin 2) : Memref sig .tc .vmem S1024x1024 .bf16 := (raU i).squeeze S1024x1024 squeezes_S1x1024x1024_S1024x1024
abbrev rbR (i : Fin 2) : Memref sig .tc .vmem S512x1024 .bf16 := (rbU i).squeeze S512x1024 squeezes_S1x512x1024_S512x1024
abbrev stR (i : Fin 2) : Memref sig .tc .vmem S512x2048 .f32 := (stU i).squeeze S512x2048 squeezes_S1x512x2048_S512x2048
/-- The four row bands of the result, and of the gather buffer. -/
abbrev outR (i : Fin 4) : Memref sig .tc .hbm S512x2048 .f32 :=
  match i with
  | 0 => outM.slice (Rect.unit (s := S2048x2048) ![0, 0] S512x2048.size inb_S2048x2048_S512x2048_0_0) (fun _ => rfl)
  | 1 => outM.slice (Rect.unit (s := S2048x2048) ![512, 0] S512x2048.size inb_S2048x2048_S512x2048_512_0) (fun _ => rfl)
  | 2 => outM.slice (Rect.unit (s := S2048x2048) ![1024, 0] S512x2048.size inb_S2048x2048_S512x2048_1024_0) (fun _ => rfl)
  | 3 => outM.slice (Rect.unit (s := S2048x2048) ![1536, 0] S512x2048.size inb_S2048x2048_S512x2048_1536_0) (fun _ => rfl)

/-! ## The units of the cells -/

/-- What exchange `j` moves, in units of its cells. -/
def amt (j : Fin 8) : ℕ :=
  match j with
  | 0 => (raR 0).view.dmaCredit | 1 => (rbR 0).view.dmaCredit | 2 => (gQ0 0).view.dmaCredit | 3 => (gB0 0).view.dmaCredit
  | 4 => (raR 1).view.dmaCredit | 5 => (rbR 1).view.dmaCredit | 6 => (gQ1 0).view.dmaCredit | 7 => (gB1 0).view.dmaCredit
/-- What one copy out moves. -/
def amtC : ℕ := (outR 0).view.dmaCredit
theorem amt_pos (j : Fin 8) : 0 < amt j := by
  unfold amt; split <;> exact View.dmaCredit_pos _ (by decide)
theorem amtC_pos : 0 < amtC := View.dmaCredit_pos _ (by decide)

/-- The units of the kernel's own cell number `j`. -/
def amtD (j : Fin 18) : ℕ :=
  if h : j.val < 8 then amt ⟨j.val, h⟩ else if h : j.val < 16 then amt ⟨j.val - 8, by omega⟩ else amtC
theorem amtD_pos (j : Fin 18) : 0 < amtD j := by
  unfold amtD; split
  · exact amt_pos _
  · split
    · exact amt_pos _
    · exact amtC_pos
theorem amtD_s (j : Fin 8) : amtD ⟨j.val, by omega⟩ = amt j := by unfold amtD; rw [dif_pos j.isLt]
theorem amtD_r (j : Fin 8) : amtD ⟨8 + j.val, by omega⟩ = amt j := by
  unfold amtD; rw [dif_neg (by simp), dif_pos (by simp; omega)]; congr 1; ext; simp
theorem amtD_c (i : Fin 2) : amtD ⟨16 + i.val, by omega⟩ = amtC := by
  unfold amtD; rw [dif_neg (by simp; omega), dif_neg (by simp)]

example (c : Dev nD) : (gA0 c).view.dmaCredit = amt 0 := rfl
example (c : Dev nD) : (gQ0 c).view.dmaCredit = amt 2 := rfl
example (c : Dev nD) : (gB1 c).view.dmaCredit = amt 7 := rfl

end Cert.Talk
-- ==== Proof.Own.lean ====
module

public import proofs.«01_k».proof.Proof.Net

/-! Memory steps of the body over owned regions: a load returns the contents a region is owned at,
a store re-owns the region at what was stored, and a squeezed slot is the slot. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- Two copies of the round protocol's ghost state: the pipeline's and the exchanges'. -/
abbrev UT : Type := Rounds.URounds (GSem nD τ sig) (Fin 2)
abbrev UU : Type := UR sig nD τ × UT

local notation "𝕄" => MT nD τ sig Unit (Elt F) ℕ UU ℕ

abbrev EP : Emb (UR sig nD τ) (MT nD τ sig Unit (Elt F) ℕ UU ℕ) := embL
abbrev ER : Emb UT (MT nD τ sig Unit (Elt F) ℕ UU ℕ) := embR
abbrev 𝒱₀ : Variants := Variants.none

variable {sp : Space} {cs : CoreSpace} {s s' : Shape} {e : EltTy}

/-- Device `c` owns the region and reads `X` there. -/
def own (c : Dev nD) (m : Memref sig .tc sp s e) (X : s.Idx → Elt F e) : sProp 𝕄 := ownsTc c m fullShare X
/-- Device `c` owns the region, at contents nothing is said of. -/
def anyAt (c : Dev nD) (m : Memref sig .tc sp s e) : sProp 𝕄 := iprop(∃ X : s.Idx → Elt F e, own c m X)

instance own_storable (c : Dev nD) (m : Memref sig .tc sp s e) (X : s.Idx → Elt F e) :
    BI.Storable (upEmb : UEmb _ 𝕄) (own c m X) := by unfold own; infer_instance
instance anyAt_storable (c : Dev nD) (m : Memref sig .tc sp s e) :
    BI.Storable (upEmb : UEmb _ 𝕄) (anyAt (F := F) c m) := by unfold anyAt; infer_instance

theorem own_any (c : Dev nD) (m : Memref sig .tc sp s e) (X : s.Idx → Elt F e) : (own c m X : sProp 𝕄) ⊢ anyAt c m := by
  unfold anyAt; iintro H; iexists X; iexact H

theorem own_pts (c : Dev nD) (m : Memref sig .tc sp s e) (f : m.view.ty.Contents (Elt F)) {X : s.Idx → Elt F e}
    (h : m.view.read (Elt F) f = X) :
    (m.view.loc (c : Thread nD τ) ↦[m.view.set]{fullShare} f : sProp 𝕄) ⊢ own c m X := by
  subst h; exact owns_intro (c : Thread nD τ) m fullShare f

theorem any_pts (c : Dev nD) (m : Memref sig .tc sp s e) (f : m.view.ty.Contents (Elt F)) :
    (m.view.loc (c : Thread nD τ) ↦[m.view.set]{fullShare} f : sProp 𝕄) ⊢ anyAt c m :=
  (own_pts c m f rfl).trans (own_any c m _)

/-- A squeezed region read back under its own shape. -/
def unsq (h : s'.numel = s.numel) (X : s'.Idx → Elt F e) : s.Idx → Elt F e := fun i => X ((Shape.reshapeEquiv h).symm i)

theorem shapeCast_unsq (h : s'.numel = s.numel) (X : s'.Idx → Elt F e) (hc : s.ShapeCasts s') :
    shapeCast s' (unsq (s := s) h X : Vec F s e) hc = X := by
  funext i
  show X ((Shape.reshapeEquiv h).symm (Shape.reshapeEquiv _ i)) = X i
  rw [Equiv.symm_apply_apply]

theorem own_unsq (c : Dev nD) (m : Memref sig .tc sp s e) (h : s.Squeezes s') (X : s'.Idx → Elt F e) :
    (own c (m.squeeze s' h) X : sProp 𝕄) = own c m (unsq h.numel_eq X) := by
  have hset : (m.squeeze s' h).view.set = m.view.set := View.set_reshape _ _
  have hread : ∀ f : m.view.ty.Contents (Elt F), (m.squeeze s' h).view.read (Elt F) f = X ↔ m.view.read (Elt F) f = unsq h.numel_eq X := by
    intro f
    have : (m.squeeze s' h).view.read (Elt F) f = fun i => m.view.read (Elt F) f (Shape.reshapeEquiv h.numel_eq i) := rfl
    rw [this]
    constructor
    · intro e; rw [← e]; funext i
      show m.view.read (Elt F) f i = m.view.read (Elt F) f (Shape.reshapeEquiv h.numel_eq ((Shape.reshapeEquiv h.numel_eq).symm i))
      rw [Equiv.apply_symm_apply]
    · intro e; rw [e]; funext i
      show X ((Shape.reshapeEquiv h.numel_eq).symm (Shape.reshapeEquiv h.numel_eq i)) = X i
      rw [Equiv.symm_apply_apply]
  have h₁ : (own c (m.squeeze s' h) X : sProp 𝕄) ⊢ own c m (unsq h.numel_eq X) := by
    unfold own ownsTc owns; iintro ⟨%f, %hf, H⟩; iexists f; isplitr
    · ipureintro; exact (hread f).mp hf
    · rw [hset]; iexact H
  have h₂ : (own c m (unsq h.numel_eq X) : sProp 𝕄) ⊢ own c (m.squeeze s' h) X := by
    unfold own ownsTc owns; iintro ⟨%f, %hf, H⟩; iexists f; isplitr
    · ipureintro; exact (hread f).mpr hf
    · rw [hset]; iexact H
  exact BI.equiv_iff.mp ⟨h₁, h₂⟩

theorem any_unsq (c : Dev nD) (m : Memref sig .tc sp s e) (h : s.Squeezes s') :
    (anyAt c (m.squeeze s' h) : sProp 𝕄) ⊢ anyAt c m := by
  unfold anyAt; iintro ⟨%X, H⟩; iexists _; iapply (Entails.of_eq (own_unsq c m h X)); iexact H
theorem any_sq (c : Dev nD) (m : Memref sig .tc sp s e) (h : s.Squeezes s') :
    (anyAt c m : sProp 𝕄) ⊢ anyAt c (m.squeeze s' h) := by
  unfold anyAt; iintro ⟨%X, H⟩
  iexists fun i => X (Shape.reshapeEquiv h.numel_eq i)
  have : unsq (F := F) (e := e) h.numel_eq (fun i => X (Shape.reshapeEquiv h.numel_eq i)) = X := by
    funext i; show X _ = X i; rw [Equiv.apply_symm_apply]
  iapply (Entails.of_eq ((own_unsq c m h _).trans (by rw [this])).symm); iexact H

section Steps

/-- A load of part of an owned region. -/
theorem step_load_part (c : Dev nD) (Kt : PUnit → sProp 𝕄) {m : Memref sig .tc (cs : Space) s e} {r : Rect s} {hl : m.view.LoadsAt r.toLoadRect}
    {X : s.Idx → Elt F e} {k : (r.shape.Idx → Elt F e) → Prog (TpuEff nD τ sig (Elt F) Λ₀ .tc) PUnit} :
    (own c m X : sProp 𝕄)
      ⊢ iprop((own c m X -∗ wp frame (wpE (defs₀ (F := F)) 𝒱₀ (c : Thread nD τ) none) Set.univ (k fun i => X (r.emb i)) Kt)
        -∗ wp frame (wpE (defs₀ (F := F)) 𝒱₀ (c : Thread nD τ) none) Set.univ (.op (.load m r.toLoadRect hl) k) Kt) := by
  unfold own ownsTc owns
  iintro ⟨%f, %hf, H⟩ Hk
  iapply (wp_load_rect (r := r) (S := m.view.set) 𝒱₀ (c : Thread nD τ) none Set.univ (m := m) (hl := hl) (k := k) (f := f)
    (View.set_slice_subset m.view r)) $$ [H]
  · iexact H
  iintro H
  have : (m.access r).read (Elt F) f = fun i => X (r.emb i) := by rw [← hf]; rfl
  rw [this]
  iapply Hk
  iexists f; isplitr
  · ipureintro; exact hf
  · iexact H

/-- A load of an owned region, named as the rectangle it is. -/
theorem step_load (c : Dev nD) (Kt : PUnit → sProp 𝕄) {m : Memref sig .tc (cs : Space) s e} {r : Rect s} {hr : ∀ a, r.stride a = 1} {hl : m.view.LoadsAt r.toLoadRect}
    {X : r.shape.Idx → Elt F e} {k : (r.shape.Idx → Elt F e) → Prog (TpuEff nD τ sig (Elt F) Λ₀ .tc) PUnit} :
    (own c (m.slice r hr) X : sProp 𝕄)
      ⊢ iprop((own c (m.slice r hr) X -∗ wp frame (wpE (defs₀ (F := F)) 𝒱₀ (c : Thread nD τ) none) Set.univ (k X) Kt)
        -∗ wp frame (wpE (defs₀ (F := F)) 𝒱₀ (c : Thread nD τ) none) Set.univ (.op (.load m r.toLoadRect hl) k) Kt) := by
  unfold own ownsTc owns
  iintro ⟨%f, %hf, H⟩ Hk
  iapply (wp_load_rect (r := r) (S := (m.access r).set) 𝒱₀ (c : Thread nD τ) none Set.univ (m := m) (hl := hl) (k := k) (f := f)
    subset_rfl) $$ [H]
  · iexact H
  iintro H
  have : (m.access r).read (Elt F) f = X := hf
  rw [this]
  iapply Hk
  iexists f; isplitr
  · ipureintro; exact hf
  · iexact H

/-- A load of a region at contents nothing is said of. -/
theorem step_load_any (c : Dev nD) (Kt : PUnit → sProp 𝕄) {m : Memref sig .tc (cs : Space) s e} {r : Rect s} {hr : ∀ a, r.stride a = 1} {hl : m.view.LoadsAt r.toLoadRect}
    {k : (r.shape.Idx → Elt F e) → Prog (TpuEff nD τ sig (Elt F) Λ₀ .tc) PUnit} :
    (anyAt c (m.slice r hr) : sProp 𝕄)
      ⊢ iprop((∀ X, anyAt c (m.slice r hr) -∗ wp frame (wpE (defs₀ (F := F)) 𝒱₀ (c : Thread nD τ) none) Set.univ (k X) Kt)
        -∗ wp frame (wpE (defs₀ (F := F)) 𝒱₀ (c : Thread nD τ) none) Set.univ (.op (.load m r.toLoadRect hl) k) Kt) := by
  unfold anyAt
  iintro ⟨%X, H⟩ Hk
  iapply (step_load c Kt (hr := hr) (X := X)) $$ [H]
  · iexact H
  iintro H
  iapply Hk
  iexists X; iexact H

/-- A store over a region. -/
theorem step_store (c : Dev nD) (Kt : PUnit → sProp 𝕄) {m : Memref sig .tc (cs : Space) s e} {r : Rect s} {hr : ∀ a, r.stride a = 1} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) PUnit} :
    (anyAt c (m.slice r hr) : sProp 𝕄)
      ⊢ iprop((own c (m.slice r hr) w -∗ wp frame (wpE (defs₀ (F := F)) 𝒱₀ (c : Thread nD τ) none) Set.univ (k ⟨⟩) Kt)
        -∗ wp frame (wpE (defs₀ (F := F)) 𝒱₀ (c : Thread nD τ) none) Set.univ (.op (.store m r w Finset.univ hx hm) k) Kt) := by
  unfold anyAt own ownsTc owns
  iintro ⟨%X, %f, %hf, H⟩ Hk
  iapply (wp_store (r := r) (S := (m.access r).set) 𝒱₀ (c : Thread nD τ) none Set.univ (m := m) (hx := hx) (hm := hm) (k := k) (f := f) (w := w)
    (Mk := Finset.univ) subset_rfl) $$ [H]
  · iexact H
  iintro H
  iapply Hk
  iexists _; isplitr
  · ipureintro; exact View.read_write_univ (v := m.access r) f w
  · iexact H

end Steps

end Cert.Talk
-- ==== Proof.Talk.lean ====
module

public import proofs.«01_k».proof.Proof.Own

/-! The protocol. What each semaphore cell is paid, by whom, how much, and what is handed over with it:
the contents are named from the four tiles each device computes (`T c t`, the tile of grid row `t`). -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Contents -/

/-- A two-axis index, each coordinate wrapped into its extent. -/
def at2 (m n : ℕ) (hm : 0 < m) (hn : 0 < n) (a b : ℕ) : (⟨2, ![m, n]⟩ : Shape).Idx :=
  fun k => match k with
    | 0 => ⟨a % m, Nat.mod_lt _ hm⟩
    | 1 => ⟨b % n, Nat.mod_lt _ hn⟩

abbrev Tile (F : FTy → Type) : Type := S1024x1024.Idx → Elt F .bf16
abbrev Quar (F : FTy → Type) : Type := S512x1024.Idx → Elt F .bf16

/-- The upper (`h = 0`) or lower (`h = 1`) half of a tile's rows. -/
def half (h : ℕ) (X : Tile F) : Quar F := fun i => X (at2 1024 1024 (by decide) (by decide) (512 * h + (i 0).val) (i 1).val)

variable (T : Dev nD → Fin 4 → Tile F)

/-- The kept tile of the first column half after the sum along y, and of the second after the sum along x. -/
def B0 (c : Dev nD) : Tile F := k0_pay1 (unsq (s := S1x1024x1024) squeezes_S1x1024x1024_S1024x1024.numel_eq (T (yn c) 0)) (T c 2)
def B1 (c : Dev nD) : Tile F := k0_pay2 (unsq (s := S1x1024x1024) squeezes_S1x1024x1024_S1024x1024.numel_eq (T (xn c) 1)) (T c 3)
/-- The quarter finished on device `c`: its half of the kept tile plus the neighbour's. -/
def Q0 (c : Dev nD) : Quar F :=
  k0_pay3 (unsq (s := S1x512x1024) squeezes_S1x512x1024_S512x1024.numel_eq (half (c.val / 2) (B0 T (xn c)))) (half (c.val / 2) (B0 T c))
def Q1 (c : Dev nD) : Quar F :=
  k0_pay4 (unsq (s := S1x512x1024) squeezes_S1x512x1024_S512x1024.numel_eq (half (c.val % 2) (B1 T (yn c)))) (half (c.val % 2) (B1 T c))
/-- The gathered sum, the same on every device. -/
def G : S2048x2048.Idx → Elt F .bf16 := fun i =>
  if (i 1).val < 1024 then
    Q0 T (dv ((i 0).val % 1024 / 512) ((i 0).val / 1024)) (at2 512 1024 (by decide) (by decide) (i 0).val (i 1).val)
  else Q1 T (dv ((i 0).val / 1024) ((i 0).val % 1024 / 512)) (at2 512 1024 (by decide) (by decide) (i 0).val (i 1).val)
/-- What the kernel leaves in its result. -/
def Out : S2048x2048.Idx → Elt F .f32 := (extf .f32 (G T : FVec F S2048x2048 .bf16) bitsLt_bf16_f32 : FVec F S2048x2048 .f32)

/-- Its row band `b`. -/
def outC (b : Fin 4) : S512x2048.Idx → Elt F .f32 := fun i => Out T (at2 2048 2048 (by decide) (by decide) (512 * b.val + (i 0).val) (i 1).val)

/-! ## What is handed over -/

/-- That the device's own cells are open. -/
def marks (c : Dev nD) : sProp 𝕄 := bigSep Finset.univ fun j : Fin 18 => reached ER (dC c j) 0
instance marks_persistent (c : Dev nD) : BI.Persistent (marks (F := F) c) := by unfold marks; infer_instance
theorem marks_at (c : Dev nD) (j : Fin 18) : (marks c : sProp 𝕄) ⊢ reached ER (dC c j) 0 := by
  unfold marks; exact bigSep_elim (Finset.mem_univ j)

/-- Handed to device `c` by its y neighbour at the start: the landing slots this device's copies along y fill. -/
def barY (c : Dev nD) : sProp 𝕄 := iprop(anyAt (yn c) (raR 0) ∗ anyAt (yn c) (rbR 1) ∗ marks (yn c))
/-- The same of its x neighbour. -/
def barX (c : Dev nD) : sProp 𝕄 := iprop(anyAt (xn c) (raR 1) ∗ anyAt (xn c) (rbR 0) ∗ marks (xn c))

/-- What comes back with a send cell: the source region of the copies of finished parts. The first two copies along
    each axis leave their source with the landing: the receiver is to write there later. -/
def sendPay (c : Dev nD) (j : Fin 8) : sProp 𝕄 :=
  match j with
  | 2 => own c (gQ0 c) (Q0 T c)
  | 6 => own c (gQ1 c) (Q1 T c)
  | 3 => own c (gB0 c) ((gB0 c).view.read (Elt F) (G T))
  | 7 => own c (gB1 c) ((gB1 c).view.read (Elt F) (G T))
  | _ => iprop(emp)

/-- What comes with a receive cell: the landed region, and for the first two copies along each axis the source region
    on the sender. -/
def recvPay (c : Dev nD) (j : Fin 8) : sProp 𝕄 :=
  match j with
  | 0 => iprop(own c (raR 0) (T (yn c) 0) ∗ anyAt (yn c) (gA0 (yn c)))
  | 4 => iprop(own c (raR 1) (T (xn c) 1) ∗ anyAt (xn c) (gA1 (xn c)))
  | 1 => iprop(own c (rbR 0) (half (c.val / 2) (B0 T (xn c))) ∗ anyAt (xn c) (gS0 (xn c)))
  | 5 => iprop(own c (rbR 1) (half (c.val % 2) (B1 T (yn c))) ∗ anyAt (yn c) (gS1 (yn c)))
  | 2 => own c (gQ0 (xn c)) (Q0 T (xn c))
  | 6 => own c (gQ1 (yn c)) (Q1 T (yn c))
  | 3 => own c (gB0 (yn c)) ((gB0 (yn c)).view.read (Elt F) (G T))
  | 7 => own c (gB1 (xn c)) ((gB1 (xn c)).view.read (Elt F) (G T))

/-- A copy out of band `b`, from stage `i`. -/
def copyPay (c : Dev nD) (i : Fin 2) (b : Fin 4) : sProp 𝕄 :=
  iprop(own c (outR b) (outC T b) ∗ anyAt c (stR i))

/-- What the kernel's own cell number `j` hands over in round `r`. -/
def dPay (c : Dev nD) (j : Fin 18) (r : ℕ) : sProp 𝕄 :=
  if h : j.val < 8 then sendPay T c ⟨j.val, h⟩ else if h : j.val < 16 then recvPay T c ⟨j.val - 8, by omega⟩
  else if j.val = 16 then (if r = 0 then copyPay T c 0 0 else copyPay T c 0 2)
  else (if r = 0 then copyPay T c 1 1 else copyPay T c 1 3)

theorem dPay_s (c : Dev nD) (j : Fin 8) (r : ℕ) : dPay T c ⟨j.val, by omega⟩ r = sendPay T c j := by
  unfold dPay; rw [dif_pos j.isLt]
theorem dPay_r (c : Dev nD) (j : Fin 8) (r : ℕ) : dPay T c ⟨8 + j.val, by omega⟩ r = recvPay T c j := by
  unfold dPay; rw [dif_neg (by simp), dif_pos (by simp; omega)]; congr 1; ext; simp
theorem dPay_c00 (c : Dev nD) : dPay T c 16 0 = copyPay T c 0 0 := by unfold dPay; rfl
theorem dPay_c01 (c : Dev nD) : dPay T c 16 1 = copyPay T c 0 2 := by unfold dPay; rfl
theorem dPay_c10 (c : Dev nD) : dPay T c 17 0 = copyPay T c 1 1 := by unfold dPay; rfl
theorem dPay_c11 (c : Dev nD) : dPay T c 17 1 = copyPay T c 1 3 := by unfold dPay; rfl

instance dPay_storable (c : Dev nD) (j : Fin 18) (r : ℕ) : BI.Storable (upEmb : UEmb _ 𝕄) (dPay T c j r) := by
  unfold dPay sendPay recvPay copyPay
  (repeat' split) <;> infer_instance

/-! ## The schedule -/

def payOf (g : GSem nD τ sig) (r : ℕ) (d : Fin 2) : sProp 𝕄 :=
  match g.2 with
  | .reg _ => if d = 0 then barY g.1.1 else barX g.1.1
  | .dma s => if h : 3 ≤ s.val then dPay T g.1.1 ⟨s.val - 3, by have : s.val < 21 := s.isLt; omega⟩ r else iprop(emp)

def dutiesOf (g : GSem nD τ sig) (r : ℕ) : Finset (Fin 2) :=
  if g.1.2 = .tc then
    match g.2 with
    | .reg s => if s = barS ∧ r = 0 then Finset.univ else ∅
    | .dma s => if 3 ≤ s.val ∧ (r = 0 ∨ (r = 1 ∧ 19 ≤ s.val)) then {0} else ∅
  else ∅

def amountOf' (g : GSem nD τ sig) : ℕ :=
  match g.2 with
  | .reg _ => 1
  | .dma s => if h : 3 ≤ s.val then amtD ⟨s.val - 3, by have : s.val < 21 := s.isLt; omega⟩ else 1

def rd : Rounds.Schedule (GSem nD τ sig) (Fin 2) 𝕄 where
  duties := dutiesOf
  unitless _ := False
  amount g _ _ := amountOf' g
  payload := payOf T
  amount_pos g _ _ _ := by
    unfold amountOf'; split
    · exact Nat.one_pos
    · split
      · exact amtD_pos _
      · exact Nat.one_pos

instance rd_payload_storable (g : GSem nD τ sig) (r : ℕ) (d : Fin 2) :
    BI.Storable (upEmb : UEmb _ 𝕄) ((rd T).payload g r d) := by
  show BI.Storable upEmb (payOf T g r d)
  unfold payOf barY barX marks
  (repeat' split) <;> infer_instance

theorem dsem_back (j : Fin 18) (h : (dsem j).val - 3 < 18) : (⟨(dsem j).val - 3, h⟩ : Fin 18) = j := by
  apply Fin.ext; show 3 + j.val - 3 = j.val; omega
theorem dsem_ge (j : Fin 18) : 3 ≤ (dsem j).val := by show 3 ≤ 3 + j.val; omega

theorem duties_bar (c : Dev nD) : (rd T).duties (barC c) 0 = Finset.univ := by
  show dutiesOf (barC c) 0 = _; unfold dutiesOf; rw [if_pos rfl]; exact if_pos ⟨rfl, rfl⟩
theorem duties_d (c : Dev nD) (j : Fin 18) : (rd T).duties (dC c j) 0 = {0} := by
  show dutiesOf (dC c j) 0 = _; unfold dutiesOf; rw [if_pos rfl]; exact if_pos ⟨dsem_ge j, .inl rfl⟩
theorem duties_c1 (c : Dev nD) (i : Fin 2) : (rd T).duties (cC c i) 1 = {0} := by
  show dutiesOf (cC c i) 1 = _; unfold dutiesOf; rw [if_pos rfl]
  exact if_pos ⟨dsem_ge _, .inr ⟨rfl, by show 19 ≤ 3 + (16 + i.val); omega⟩⟩
theorem duties_later (g : GSem nD τ sig) (hg : ∀ s, g.2 = .dma s → s.val < 19) : ∀ r, 1 ≤ r → (rd T).duties g r = ∅ := by
  intro r hr
  show dutiesOf g r = _
  unfold dutiesOf
  split
  · split
    · exact if_neg fun h => by omega
    · rename_i s hs
      have := hg s hs
      exact if_neg fun h => by omega
  · rfl
theorem duties_later2 (g : GSem nD τ sig) : ∀ r, 2 ≤ r → (rd T).duties g r = ∅ := by
  intro r hr
  show dutiesOf g r = _
  unfold dutiesOf
  split
  · split
    · exact if_neg fun h => by omega
    · exact if_neg fun h => by omega
  · rfl

theorem amount_bar (c : Dev nD) (r : ℕ) (d : Fin 2) : (rd T).amount (barC c) r d = 1 := rfl
theorem amount_d (c : Dev nD) (j : Fin 18) (r : ℕ) (d : Fin 2) : (rd T).amount (dC c j) r d = amtD j := by
  show amountOf' (dC c j) = _; unfold amountOf'
  show (if h : 3 ≤ (dsem j).val then amtD ⟨(dsem j).val - 3, _⟩ else 1) = amtD j
  rw [dif_pos (dsem_ge j), dsem_back]
theorem payload_d (c : Dev nD) (j : Fin 18) (r : ℕ) (d : Fin 2) : (rd T).payload (dC c j) r d = dPay T c j r := by
  show payOf T (dC c j) r d = _; unfold payOf
  show (if h : 3 ≤ (dsem j).val then dPay T c ⟨(dsem j).val - 3, _⟩ r else iprop(emp)) = dPay T c j r
  rw [dif_pos (dsem_ge j), dsem_back]
theorem payload_bar0 (c : Dev nD) (r : ℕ) : (rd T).payload (barC c) r 0 = barY c := rfl
theorem payload_bar1 (c : Dev nD) (r : ℕ) : (rd T).payload (barC c) r 1 = barX c := rfl

theorem expect_bar (c : Dev nD) : (rd T).expect (barC c) 0 = 2 := by
  unfold Schedule.expect Schedule.amountOf; rw [duties_bar, Fin.sum_univ_two, amount_bar, amount_bar]
theorem expect_d (c : Dev nD) (j : Fin 18) : (rd T).expect (dC c j) 0 = amtD j := by
  unfold Schedule.expect Schedule.amountOf; rw [duties_d, Finset.sum_singleton, amount_d]
theorem expect_c1 (c : Dev nD) (i : Fin 2) : (rd T).expect (cC c i) 1 = amtC := by
  unfold Schedule.expect Schedule.amountOf; rw [duties_c1, Finset.sum_singleton, amount_d, amtD_c]

theorem rest_bar (c : Dev nD) : bigSep ((rd T).duties (barC c) 0 \ ∅) (fun u => (rd T).payload (barC c) 0 u) = iprop(barY c ∗ barX c) := by
  rw [Finset.sdiff_empty, duties_bar, BI.bigSep_fin_two, payload_bar0, payload_bar1]; rfl
theorem rest_d (c : Dev nD) (j : Fin 18) : bigSep ((rd T).duties (dC c j) 0 \ ∅) (fun u => (rd T).payload (dC c j) 0 u) = dPay T c j 0 := by
  rw [Finset.sdiff_empty, duties_d, bigSep_singleton, payload_d]
theorem rest_c1 (c : Dev nD) (i : Fin 2) : bigSep ((rd T).duties (cC c i) 1 \ ∅) (fun u => (rd T).payload (cC c i) 1 u)
    = dPay T c ⟨16 + i.val, by omega⟩ 1 := by
  rw [Finset.sdiff_empty, duties_c1, bigSep_singleton, payload_d]

/-! ## What a device owes, and the levels -/

/-- The receive credits still owed: those of the exchanges in `S`, on the neighbour each goes to. -/
def oweR (c : Dev nD) (S : Finset (Fin 8)) : CellTallies nD τ sig Unit := ∑ j ∈ S, tallyAt (rC (tgt c j) j) () (amt j)
/-- At launch: all of them, and a barrier unit to each neighbour. -/
def O₀ (c : Dev nD) : CellTallies nD τ sig Unit := (oweR c Finset.univ + tallyAt (barC (xn c)) () 1) + tallyAt (barC (yn c)) () 1

theorem oweR_step (c : Dev nD) (S S' : Finset (Fin 8)) (j : Fin 8) (h : S = insert j S') (hj : j ∉ S') :
    oweR c S = oweR c S' + tallyAt (rC (tgt c j) j) () (amt j) := by
  subst h; unfold oweR; rw [Finset.sum_insert hj, add_comm]
theorem oweR_empty (c : Dev nD) : oweR c ∅ = 0 := Finset.sum_empty

def L (g : GSem nD τ sig) : Finset Unit := if g.1.2 = .tc then {()} else ∅
/-- Barrier cells at 1, receive cells from 2 up in the order they are waited for, the rest at 0. -/
def lv (g : GSem nD τ sig) (_ : Unit) : ℕ :=
  match g.2 with
  | .reg _ => 1
  | .dma s => if 11 ≤ s.val ∧ s.val < 19 then 2 + (s.val - 11) % 4 else 0
theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (j : Fin 8) : lv (rC c j) () = 2 + j.val % 4 := by
  show (if 11 ≤ 3 + (8 + j.val) ∧ 3 + (8 + j.val) < 19 then 2 + (3 + (8 + j.val) - 11) % 4 else 0) = _
  rw [if_pos (by omega)]; congr 2; omega
theorem lv_s (c : Dev nD) (j : Fin 8) : lv (sC c j) () = 0 := by
  show (if 11 ≤ 3 + j.val ∧ 3 + j.val < 19 then 2 + (3 + j.val - 11) % 4 else 0) = _
  rw [if_neg (by omega)]

theorem oweR_pos (c : Dev nD) (S : Finset (Fin 8)) (g : GSem nD τ sig) (u : Unit) (h : 0 < oweR c S g u) :
    ∃ j ∈ S, g = rC (tgt c j) j := by
  unfold oweR at h
  induction S using Finset.induction_on with
  | empty => rw [Finset.sum_empty] at h; exact absurd h (Nat.lt_irrefl 0)
  | insert a S ha ih =>
    rw [Finset.sum_insert ha, Pi.add_apply, Finsupp.add_apply] at h
    by_cases h' : 0 < (∑ j ∈ S, (tallyAt (rC (tgt c j) j) () (amt j) : CellTallies nD τ sig Unit)) g u
    · obtain ⟨i, hi, h⟩ := ih h'; exact ⟨i, Finset.mem_insert_of_mem hi, h⟩
    · refine ⟨a, Finset.mem_insert_self _ _, ?_⟩
      by_contra hn
      rw [tallyAt_apply, if_neg fun e => hn e.1] at h
      omega

/-- A wait on a cell below everything still owed. -/
theorem mayWait (c : Dev nD) (sm : SemLoc sig) (k : ℕ) (hk : lv ((c : Thread nD τ), sm) () ≤ k) (S : Finset (Fin 8)) (hS : ∀ j ∈ S, k < 2 + j.val % 4) :
    (levAts L lv : sProp 𝕄) ⊢ MayWait (c : Thread nD τ) sm () (oweR c S) :=
  MayOwe.of_cut (L := L) (lev := lv) k (fun p hp => by rw [Finset.mem_singleton.mp hp, L_tc]; exact Finset.mem_singleton_self _)
    (fun g u hg => by obtain ⟨j, -, rfl⟩ := oweR_pos c S g u hg; rw [L_tc]; exact Finset.mem_singleton_self _)
    (fun p hp => by rw [Finset.mem_singleton.mp hp]; exact hk)
    (fun g u hg => by obtain ⟨j, hj, rfl⟩ := oweR_pos c S g u hg; show k < lv (rC (tgt c j) j) (); rw [lv_r]; exact hS j hj)

end Cert.Talk
-- ==== Proof.Steps.lean ====
module

public import proofs.«01_k».proof.Proof.Talk

/-! Communication steps of the body: a copy to the neighbour, a wait on an own cell, a copy out, a signal. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells, and what is always at hand -/

def barEmb : Dev nD ↪ GSem nD τ sig := ⟨fun c => barC c, fun a b h => by
  have := congrArg (fun g : GSem nD τ sig => g.1.1) h; exact this⟩
def dEmb : Dev nD × Fin 18 ↪ GSem nD τ sig := ⟨fun x => dC x.1 x.2, fun a b h => by
  have h1 : a.1 = b.1 := congrArg (fun g : GSem nD τ sig => g.1.1) h
  have h2 : SemLoc.dma (dsem a.2) = (SemLoc.dma (dsem b.2) : SemLoc sig) := congrArg (fun g : GSem nD τ sig => g.2) h
  have h3 : dsem a.2 = dsem b.2 := by injection h2
  have h4 : (3 + a.2.val) = 3 + b.2.val := congrArg Fin.val h3
  exact Prod.ext h1 (Fin.ext (by omega))⟩
def barCells : Finset (GSem nD τ sig) := Finset.univ.map barEmb
def dCells : Finset (GSem nD τ sig) := Finset.univ.map dEmb
theorem mem_bar (c : Dev nD) : barC c ∈ barCells ∪ dCells :=
  Finset.mem_union_left _ (Finset.mem_map_of_mem barEmb (Finset.mem_univ c))
theorem mem_d (c : Dev nD) (j : Fin 18) : dC c j ∈ barCells ∪ dCells :=
  Finset.mem_union_right _ (Finset.mem_map_of_mem dEmb (Finset.mem_univ (c, j)))

variable (T : Dev nD → Fin 4 → Tile F) (K : GSem nD τ sig → ℕ)

def invs : sProp 𝕄 := bigSep (barCells ∪ dCells) fun g => cellInv ER (rd T) (K g) g
instance invs_persistent : BI.Persistent (invs T K) := by unfold invs; infer_instance
theorem inv_bar (c : Dev nD) : (invs T K : sProp 𝕄) ⊢ cellInv ER (rd T) (K (barC c)) (barC c) := by
  unfold invs; exact bigSep_elim (mem_bar c)
theorem inv_d (c : Dev nD) (j : Fin 18) : (invs T K : sProp 𝕄) ⊢ cellInv ER (rd T) (K (dC c j)) (dC c j) := by
  unfold invs; exact bigSep_elim (mem_d c j)

/-- The cells' invariants, the levels, that the barrier cells are open and that the device's own cells are. -/
def base (c : Dev nD) : sProp 𝕄 :=
  iprop(invs T K ∗ levAts L lv ∗ (bigSep Finset.univ fun p : Dev nD => reached ER (barC p) 0) ∗ marks c)
instance base_persistent (c : Dev nD) : BI.Persistent (base T K c) := by unfold base; infer_instance

/-- What the device owes: the receive credits of the exchanges in `S`. -/
def owing (c : Dev nD) (S : Finset (Fin 8)) : sProp 𝕄 := iprop(∃ W : Waits sig Unit, owes (c : Thread nD τ) (oweR c S) W)

/-! ## Copies to a neighbour -/

variable {sp sp' : Space} {s s' : Shape} {e e' : EltTy}

/-- Exchange `j`, the source going over with the landing. -/
theorem step_land (c p : Dev nD) (Kt : PUnit → sProp 𝕄) (j : Fin 8) (hp : p = tgt c j) {a b : DmaSem sig} (ha : a = sS j) (hb : b = rS j)
    {src dst : Memref sig .tc .vmem s e} {hsc : dst.view.ref.isScScratch = false}
    {hsrc : src.view.WordExact} {hdst : dst.view.WordExact} {hsem : DmaTarget.Typed .vmem (.dma b) (.remote (p := .tc) (Dev.tc p : Thread nD τ) dst (.dma a) hsc)}
    {k : PUnit → Prog (TpuEff nD τ sig (Elt F) Λ₀ .tc) PUnit} {X : s.Idx → Elt F e}
    (hN : dst.view.dmaCredit = amt j) (S S' : Finset (Fin 8)) (hS : S = insert j S') (hj : j ∉ S')
    (hs : sendPay T c j = iprop(emp)) (hpay : iprop(own (tgt c j) dst X ∗ anyAt c src) ⊢ (recvPay T (tgt c j) j : sProp 𝕄)) :
    iprop(base T K c ∗ reached ER (rC (tgt c j) j) 0 ∗ own c src X ∗ anyAt (tgt c j) dst ∗ owing c S
        ∗ dutyTok ER (sC c j) 0 0 ∗ dutyTok ER (rC (tgt c j) j) 0 0)
      ⊢ iprop(((cred (tallyAt (sC c j) () (amt j)) ∗ owing c S')
            -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma src (.remote (Dev.tc p) dst (.dma a) hsc) (.dma b) hsrc hdst hsem) k) Kt) := by
  subst hp ha hb
  unfold base owing anyAt own ownsTc owns
  iintro ⟨⟨#Hi, #Hl, #Hb, #Hm⟩, #Hr, ⟨%fs, %hfs, Hs⟩, ⟨%Xd, %fd, %hfd, Hd⟩, ⟨%W, HO⟩, Ht₁, Ht₂⟩ Hk
  iapply (Rounds.wp_send_landing_pointsTo 𝒱₀ ER (rd T) (c : Thread nD τ) none (c' := (Dev.tc (tgt c j) : Thread nD τ)) (src := src) (dst := dst)
      (sS := .dma (sS j)) (sem := .dma (rS j)) (q := fullShare) (fs := fs) (fd := fd) (r₁ := 0) (r₂ := 0) (d₁ := 0) (d₂ := 0)
      (κ₁ := K (sC c j)) (κ₂ := K (rC (tgt c j) j)) (W := W)
      (by rw [duties_d]; exact Finset.mem_singleton_self _) (by
        have := duties_d T (tgt c j) ⟨8 + j.val, by omega⟩
        exact this ▸ Finset.mem_singleton_self _)
      () () (amt j) hN ((amount_d T c _ 0 0).trans (amtD_s j)) ((amount_d T (tgt c j) _ 0 0).trans (amtD_r j))
      (oweR c S') (oweR_step c S S' j hS hj)
      (by have : (rd T).payload (sC c j) 0 0 = iprop(emp) := (payload_d T c _ 0 0).trans ((dPay_s T c j 0).trans hs)
          exact Entails.of_eq this.symm)
      (by have : (rd T).payload (rC (tgt c j) j) 0 0 = recvPay T (tgt c j) j := (payload_d T _ _ 0 0).trans (dPay_r T _ j 0)
          refine .trans ?_ (Entails.of_eq this.symm)
          refine .trans ?_ hpay
          exact BIClass.sep_mono (own_pts (tgt c j) dst _ ((View.read_write_univ _ _).trans hfs)) (any_pts c src fs))) $$ [Hs Hd HO Ht₁ Ht₂]
  · ihave #H1 := (inv_d T K c ⟨j.val, by omega⟩) $$ Hi
    ihave #H2 := (inv_d T K (tgt c j) ⟨8 + j.val, by omega⟩) $$ Hi
    ihave #H3 := (marks_at (F := F) c ⟨j.val, by omega⟩) $$ Hm
    isplitr; · iexact H1
    isplitr; · iexact H2
    isplitl [Hs]; · iexact Hs
    isplitl [Hd]; · iexact Hd
    isplitl [HO]; · iexact HO
    isplitl [Ht₁]; · iexact Ht₁
    isplitr; · iexact H3
    isplitl [Ht₂]; · iexact Ht₂
    iexact Hr
  iintro ⟨Hc, HO⟩
  iapply Hk
  isplitl [Hc]; · iexact Hc
  iexists W; iexact HO

/-- Exchange `j`, the source coming back with the send cell. -/
theorem step_keep (c p : Dev nD) (Kt : PUnit → sProp 𝕄) (j : Fin 8) (hp : p = tgt c j) {a b : DmaSem sig} (ha : a = sS j) (hb : b = rS j)
    {src dst : Memref sig .tc .vmem s e} {hsc : dst.view.ref.isScScratch = false}
    {hsrc : src.view.WordExact} {hdst : dst.view.WordExact} {hsem : DmaTarget.Typed .vmem (.dma b) (.remote (p := .tc) (Dev.tc p : Thread nD τ) dst (.dma a) hsc)}
    {k : PUnit → Prog (TpuEff nD τ sig (Elt F) Λ₀ .tc) PUnit} {X : s.Idx → Elt F e}
    (hN : dst.view.dmaCredit = amt j) (S S' : Finset (Fin 8)) (hS : S = insert j S') (hj : j ∉ S')
    (hs : own c src X ⊢ (sendPay T c j : sProp 𝕄)) (hpay : own (tgt c j) dst X ⊢ (recvPay T (tgt c j) j : sProp 𝕄)) :
    iprop(base T K c ∗ reached ER (rC (tgt c j) j) 0 ∗ own c src X ∗ anyAt (tgt c j) dst ∗ owing c S
        ∗ dutyTok ER (sC c j) 0 0 ∗ dutyTok ER (rC (tgt c j) j) 0 0)
      ⊢ iprop(((cred (tallyAt (sC c j) () (amt j)) ∗ owing c S')
            -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma src (.remote (Dev.tc p) dst (.dma a) hsc) (.dma b) hsrc hdst hsem) k) Kt) := by
  subst hp ha hb
  unfold base owing anyAt own ownsTc owns
  iintro ⟨⟨#Hi, #Hl, #Hb, #Hm⟩, #Hr, ⟨%fs, %hfs, Hs⟩, ⟨%Xd, %fd, %hfd, Hd⟩, ⟨%W, HO⟩, Ht₁, Ht₂⟩ Hk
  iapply (Rounds.wp_send_pointsTo 𝒱₀ ER (rd T) (c : Thread nD τ) none (c' := (Dev.tc (tgt c j) : Thread nD τ)) (src := src) (dst := dst)
      (sS := .dma (sS j)) (sem := .dma (rS j)) (q := fullShare) (fs := fs) (fd := fd) (r₁ := 0) (r₂ := 0) (d₁ := 0) (d₂ := 0)
      (κ₁ := K (sC c j)) (κ₂ := K (rC (tgt c j) j)) (W := W)
      (by rw [duties_d]; exact Finset.mem_singleton_self _) (by
        have := duties_d T (tgt c j) ⟨8 + j.val, by omega⟩
        exact this ▸ Finset.mem_singleton_self _)
      () () (amt j) hN ((amount_d T c _ 0 0).trans (amtD_s j)) ((amount_d T (tgt c j) _ 0 0).trans (amtD_r j))
      (oweR c S') (oweR_step c S S' j hS hj)
      (by have : (rd T).payload (sC c j) 0 0 = sendPay T c j := (payload_d T c _ 0 0).trans (dPay_s T c j 0)
          exact ((own_pts c src fs hfs).trans hs).trans (Entails.of_eq this.symm))
      (by have : (rd T).payload (rC (tgt c j) j) 0 0 = recvPay T (tgt c j) j := (payload_d T _ _ 0 0).trans (dPay_r T _ j 0)
          exact ((own_pts (tgt c j) dst _ ((View.read_write_univ _ _).trans hfs)).trans hpay).trans (Entails.of_eq this.symm))) $$ [Hs Hd HO Ht₁ Ht₂]
  · ihave #H1 := (inv_d T K c ⟨j.val, by omega⟩) $$ Hi
    ihave #H2 := (inv_d T K (tgt c j) ⟨8 + j.val, by omega⟩) $$ Hi
    ihave #H3 := (marks_at (F := F) c ⟨j.val, by omega⟩) $$ Hm
    isplitr; · iexact H1
    isplitr; · iexact H2
    isplitl [Hs]; · iexact Hs
    isplitl [Hd]; · iexact Hd
    isplitl [HO]; · iexact HO
    isplitl [Ht₁]; · iexact Ht₁
    isplitr; · iexact H3
    isplitl [Ht₂]; · iexact Ht₂
    iexact Hr
  iintro ⟨Hc, HO⟩
  iapply Hk
  isplitl [Hc]; · iexact Hc
  iexists W; iexact HO

/-! ## Waits -/

/-- A wait for round 0 of an own cell that has no other round: what it hands over, and the counter back. -/
theorem step_wait (c : Dev nD) (Kt : PUnit → sProp 𝕄) (j : Fin 18) (hj : j.val < 16) {a : DmaSem sig} (ha : a = dsem j)
    {src : Memref sig .tc sp s e} {dst : Memref sig .tc sp' s' e'} {hsrc : src.view.WordExact} {hdst : dst.view.WordExact}
    {k : PUnit → Prog (TpuEff nD τ sig (Elt F) Λ₀ .tc) PUnit} (hN : dst.view.dmaCredit = amtD j)
    (lev : ℕ) (hlev : lv (dC c j) () = lev) (S : Finset (Fin 8)) (hS : ∀ i ∈ S, lev < 2 + i.val % 4) :
    iprop(base T K c ∗ cred (tallyAt (dC c j) () (amtD j)) ∗ owing c S ∗ atPos ER (dC c j) 0 ∅ 0)
      ⊢ iprop(((owing c S ∗ semVal (dC c j) 0 ∗ dPay T c j 0)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 a src dst hsrc hdst) k) Kt) := by
  subst ha
  unfold base owing
  iintro ⟨⟨#Hi, #Hl, #Hb, #Hm⟩, Hc, ⟨%W, HO⟩, Hat⟩ Hk
  ihave #H1 := (inv_d T K c j) $$ Hi
  ihave #Hmw := (mayWait (F := F) c (.dma (dsem j)) lev hlev.le S hS) $$ Hl
  iapply (Rounds.wp_wait_rest_token 𝒱₀ ER (rd T) (c : Thread nD τ) none (κ := K (dC c j))
      (wpE_waitDma2_eq (src := src) (dst := dst) 𝒱₀ (c : Thread nD τ) none Set.univ) (Set.mem_univ _) () (O := oweR c S) (W := W)
      (R := 0) (m := 0) (T := ∅) ((Nat.zero_add _).trans (hN.trans (expect_d T c j).symm))) $$ [Hc HO Hat]
  · isplitr; · iexact H1
    isplitl [Hc]; · rw [hN]; iexact Hc
    isplitl [HO]; · iexact HO
    isplitr; · iexact Hmw
    iexact Hat
  iintro ⟨HO, Hat, -, Hp⟩
  imod (Rounds.cell_close ER (rd T) (g := dC c j) (Es := Set.univ) (Set.mem_univ (K (dC c j))) id (R := 1)
    (duties_later T (dC c j) (fun s h => by
      have : dsem j = s := by injection h
      subst this; show 3 + j.val < 19; omega))) $$ [Hat] with Hv
  · isplitr; · iexact H1
    iexact Hat
  iapply Hk
  isplitl [HO]; · iexists _; iexact HO
  isplitl [Hv]; · iexact Hv
  iapply (Entails.of_eq (rest_d T c j)); iexact Hp

/-! ## Copies out -/

/-- A copy out of a band. -/
theorem step_copy (c : Dev nD) (Kt : PUnit → sProp 𝕄) (i : Fin 2) (r : ℕ) (b : Fin 4) {a : DmaSem sig} (ha : a = cS i)
    {src : Memref sig .tc .vmem S512x2048 .f32} {dst : Memref sig .tc .hbm S512x2048 .f32} (hs : src = stR i) (hd : dst = outR b)
    {hsrc : src.view.WordExact} {hdst : dst.view.WordExact} {hsem : DmaTarget.Typed (nD := nD) (τ := τ) (p := .tc) .vmem (.dma a) (.here dst)}
    {k : PUnit → Prog (TpuEff nD τ sig (Elt F) Λ₀ .tc) PUnit} (hN : (outR b).view.dmaCredit = amtC)
    (hr : (rd T).duties (cC c i) r = {0}) (hp : dPay T c ⟨16 + i.val, by omega⟩ r = copyPay T c i b) :
    iprop(base T K c ∗ own c (stR i) (outC T b) ∗ anyAt c (outR b) ∗ dutyTok ER (cC c i) r 0 ∗ reached ER (cC c i) r)
      ⊢ iprop((cred (tallyAt (cC c i) () amtC)
            -∗ wp frame (wpE (defs₀ (F := F)) 𝒱₀ (c : Thread nD τ) none) Set.univ (k ⟨⟩) Kt)
          -∗ wp frame (wpE (defs₀ (F := F)) 𝒱₀ (c : Thread nD τ) none) Set.univ
            (.op (.enqueueDma src (.here dst) (.dma a) hsrc hdst hsem) k) Kt) := by
  subst ha hs hd
  unfold base anyAt own ownsTc owns
  iintro ⟨⟨#Hi, #Hl, #Hb, #Hm⟩, ⟨%fs, %hfs, Hs⟩, ⟨%Xd, %fd, %hfd, Hd⟩, Ht, Hr⟩ Hk
  ihave #H1 := (inv_d T K c ⟨16 + i.val, by omega⟩) $$ Hi
  iapply (Rounds.wp_copy_pointsTo 𝒱₀ ER (rd T) (c : Thread nD τ) none (src := stR i) (dst := outR b) (sem := .dma (cS i)) (q := fullShare)
      (fs := fs) (fd := fd) (r := r) (d := 0) (κ := K (cC c i)) (by rw [hr]; exact Finset.mem_singleton_self _) () amtC hN
      ((amount_d T c _ r 0).trans (amtD_c i)) (by
        have : (rd T).payload (cC c i) r 0 = copyPay T c i b := (payload_d T c _ r 0).trans hp
        refine .trans ?_ (Entails.of_eq this.symm)
        unfold copyPay
        exact BIClass.sep_mono (own_pts c (outR b) _ ((View.read_write_univ _ _).trans hfs)) (any_pts c (stR i) fs))) $$ [Hs Hd Ht Hr]
  · isplitr; · iexact H1
    isplitl [Hs]; · iexact Hs
    isplitl [Hd]; · iexact Hd
    isplitl [Ht]; · iexact Ht
    iexact Hr
  iintro Hc
  iapply Hk
  iexact Hc

/-- The wait for it, nothing owed. -/
theorem step_copied (c : Dev nD) (Kt : PUnit → sProp 𝕄) (i : Fin 2) (r : ℕ) (b : Fin 4) {a : DmaSem sig} (ha : a = cS i)
    {src : Memref sig .tc sp s e} {dst : Memref sig .tc sp' s' e'} {hsrc : src.view.WordExact} {hdst : dst.view.WordExact}
    {k : PUnit → Prog (TpuEff nD τ sig (Elt F) Λ₀ .tc) PUnit} (hN : dst.view.dmaCredit = amtC)
    (hx : (rd T).expect (cC c i) r = amtC)
    (hr : (rd T).duties (cC c i) r = {0}) (hp : dPay T c ⟨16 + i.val, by omega⟩ r = copyPay T c i b) :
    iprop(base T K c ∗ cred (tallyAt (cC c i) () amtC) ∗ owing c ∅ ∗ atPos ER (cC c i) r ∅ 0)
      ⊢ iprop(((owing c ∅ ∗ atPos ER (cC c i) (r + 1) ∅ 0 ∗ reached ER (cC c i) (r + 1) ∗ copyPay T c i b)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 a src dst hsrc hdst) k) Kt) := by
  subst ha
  unfold base owing
  iintro ⟨⟨#Hi, #Hl, #Hb, #Hm⟩, Hc, ⟨%W, HO⟩, Hat⟩ Hk
  ihave #H1 := (inv_d T K c ⟨16 + i.val, by omega⟩) $$ Hi
  ihave #Hmw := (mayWait (F := F) c (.dma (cS i)) _ le_rfl ∅ (fun j hj => absurd hj (Finset.notMem_empty j))) $$ Hl
  iapply (Rounds.wp_wait_rest_token 𝒱₀ ER (rd T) (c : Thread nD τ) none (κ := K (cC c i))
      (wpE_waitDma2_eq (src := src) (dst := dst) 𝒱₀ (c : Thread nD τ) none Set.univ) (Set.mem_univ _) () (O := oweR c ∅) (W := W)
      (R := r) (m := 0) (T := ∅) ((Nat.zero_add _).trans (hN.trans hx.symm))) $$ [Hc HO Hat]
  · isplitr; · iexact H1
    isplitl [Hc]; · rw [hN]; iexact Hc
    isplitl [HO]; · iexact HO
    isplitr; · iexact Hmw
    iexact Hat
  iintro ⟨HO, Hat, Hr, Hp⟩
  iapply Hk
  isplitl [HO]; · iexists _; iexact HO
  isplitl [Hat]; · iexact Hat
  isplitl [Hr]; · iexact Hr
  have : bigSep ((rd T).duties (cC c i) r \ ∅) (fun u => (rd T).payload (cC c i) r u) = copyPay T c i b := by
    rw [Finset.sdiff_empty, hr, bigSep_singleton]; exact (payload_d T c _ r 0).trans hp
  iapply (Entails.of_eq this); iexact Hp

/-! ## The barrier -/

theorem reached_bar (p : Dev nD) : (bigSep Finset.univ fun p : Dev nD => reached ER (barC p) 0 : sProp 𝕄) ⊢ reached ER (barC p) 0 :=
  bigSep_elim (Finset.mem_univ p)

/-- The first signal, to the y neighbour. -/
theorem step_sigY (c p : Dev nD) (Kt : PUnit → sProp 𝕄) (hp : p = yn c) {a : Sem sig} (ha : a = barS)
    {k : PUnit → Prog (TpuEff nD τ sig (Elt F) Λ₀ .tc) PUnit} {W : Waits sig Unit} :
    iprop(base T K c ∗ owes (c : Thread nD τ) (O₀ c) W ∗ dutyTok ER (barC (yn c)) 0 0 ∗ anyAt c (raR 0) ∗ anyAt c (rbR 1))
      ⊢ iprop((owes (c : Thread nD τ) (oweR c Finset.univ + tallyAt (barC (xn c)) () 1) W
            -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (Dev.tc p) a 1) k) Kt) := by
  subst hp ha
  unfold base
  iintro ⟨⟨#Hi, #Hl, #Hb, #Hm⟩, HO, Ht, H0, H1⟩ Hk
  ihave #HI := (inv_bar T K (yn c)) $$ Hi
  ihave #HR := (reached_bar (F := F) (yn c)) $$ Hb
  iapply (Rounds.wp_signal 𝒱₀ ER (rd T) (c : Thread nD τ) none (dst := (Dev.tc (yn c) : Thread nD τ)) (sem := barS) (r := 0) (d := 0) (κ := K (barC (yn c)))
      (k' := 1) (W := W) (by have := duties_bar T (yn c); exact this ▸ Finset.mem_univ _) (amount_bar T (yn c) 0 0) () (oweR c Finset.univ + tallyAt (barC (xn c)) () 1) rfl)
    $$ [HO Ht H0 H1]
  · isplitr; · iexact HI
    isplitl [HO]; · iexact HO
    isplitl [Ht]; · iexact Ht
    isplitl [H0 H1]
    · iapply (Entails.of_eq ((payload_bar0 T (yn c) 0).trans (by unfold barY; rw [yn_yn])).symm)
      isplitl [H0]; · iexact H0
      isplitl [H1]; · iexact H1
      iexact Hm
    iexact HR
  iexact Hk

/-- The second, to the x neighbour. -/
theorem step_sigX (c p : Dev nD) (Kt : PUnit → sProp 𝕄) (hp : p = xn c) {a : Sem sig} (ha : a = barS)
    {k : PUnit → Prog (TpuEff nD τ sig (Elt F) Λ₀ .tc) PUnit} {W : Waits sig Unit} :
    iprop(base T K c ∗ owes (c : Thread nD τ) (oweR c Finset.univ + tallyAt (barC (xn c)) () 1) W ∗ dutyTok ER (barC (xn c)) 0 1
        ∗ anyAt c (raR 1) ∗ anyAt c (rbR 0))
      ⊢ iprop((owing c Finset.univ
            -∗ wp frame (wpE (defs₀ (F := F)) 𝒱₀ (c : Thread nD τ) none) Set.univ (k ⟨⟩) Kt)
          -∗ wp frame (wpE (defs₀ (F := F)) 𝒱₀ (c : Thread nD τ) none) Set.univ (.op (.semSignal (Dev.tc p) a 1) k) Kt) := by
  subst hp ha
  unfold base
  iintro ⟨⟨#Hi, #Hl, #Hb, #Hm⟩, HO, Ht, H0, H1⟩ Hk
  ihave #HI := (inv_bar T K (xn c)) $$ Hi
  ihave #HR := (reached_bar (F := F) (xn c)) $$ Hb
  iapply (Rounds.wp_signal 𝒱₀ ER (rd T) (c : Thread nD τ) none (dst := (Dev.tc (xn c) : Thread nD τ)) (sem := barS) (r := 0) (d := 1) (κ := K (barC (xn c)))
      (k' := 1) (W := W) (by have := duties_bar T (xn c); exact this ▸ Finset.mem_univ _) (amount_bar T (xn c) 0 1) () (oweR c Finset.univ) rfl)
    $$ [HO Ht H0 H1]
  · isplitr; · iexact HI
    isplitl [HO]; · iexact HO
    isplitl [Ht]; · iexact Ht
    isplitl [H0 H1]
    · iapply (Entails.of_eq ((payload_bar1 T (xn c) 0).trans (by unfold barX; rw [xn_xn])).symm)
      isplitl [H0]; · iexact H0
      isplitl [H1]; · iexact H1
      iexact Hm
    iexact HR
  iintro HO
  iapply Hk
  unfold owing; iexists W; iexact HO

/-- The wait for both neighbours. -/
theorem step_bar (c : Dev nD) (Kt : PUnit → sProp 𝕄) {a : Sem sig} (ha : a = barS)
    {k : PUnit → Prog (TpuEff nD τ sig (Elt F) Λ₀ .tc) PUnit} :
    iprop(base T K c ∗ cred (tallyAt (barC c) () 2) ∗ owing c Finset.univ ∗ atPos ER (barC c) 0 ∅ 0)
      ⊢ iprop(((owing c Finset.univ ∗ semVal (barC c) 0 ∗ barY c ∗ barX c)
            -∗ wp frame (wpE (defs₀ (F := F)) 𝒱₀ (c : Thread nD τ) none) Set.univ (k ⟨⟩) Kt)
          -∗ wp frame (wpE (defs₀ (F := F)) 𝒱₀ (c : Thread nD τ) none) Set.univ (.op (.semWait a 2) k) Kt) := by
  subst ha
  unfold base owing
  iintro ⟨⟨#Hi, #Hl, #Hb, #Hm⟩, Hc, ⟨%W, HO⟩, Hat⟩ Hk
  ihave #H1 := (inv_bar T K c) $$ Hi
  ihave #Hmw := (mayWait (F := F) c (.reg barS) 1 le_rfl Finset.univ (by decide)) $$ Hl
  iapply (Rounds.wp_wait_rest_token 𝒱₀ ER (rd T) (c : Thread nD τ) none (κ := K (barC c))
      (wpE_semWait_eq 𝒱₀ (c : Thread nD τ) none Set.univ) (Set.mem_univ _) () (O := oweR c Finset.univ) (W := W)
      (R := 0) (m := 0) (T := ∅) ((Nat.zero_add _).trans (expect_bar T c).symm)) $$ [Hc HO Hat]
  · isplitr; · iexact H1
    isplitl [Hc]; · iexact Hc
    isplitl [HO]; · iexact HO
    isplitr; · iexact Hmw
    iexact Hat
  iintro ⟨HO, Hat, -, Hp⟩
  imod (Rounds.cell_close ER (rd T) (g := barC c) (Es := Set.univ) (Set.mem_univ (K (barC c))) id (R := 1)
    (duties_later T (barC c) (fun s h => by cases h))) $$ [Hat] with Hv
  · isplitr; · iexact H1
    iexact Hat
  iapply Hk
  isplitl [HO]; · iexists _; iexact HO
  isplitl [Hv]; · iexact Hv
  iapply (Entails.of_eq (rest_bar T c)); iexact Hp

end Cert.Talk
-- ==== Proof.Geom.lean ====
module

public import proofs.«01_k».proof.Proof.Talk

/-! Cutting the buffers into the regions the exchanges move, and putting them together again. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Rectangles of one buffer -/

section Cut
variable (c : Dev nD) (b : Ref sig .tc)

theorem own_slice (r : Rect b.ty.shape) (hr : ∀ a, r.stride a = 1) (f : b.ty.Contents (Elt F)) :
    (own c ((Memref.whole b).slice r hr) (fun i => f (r.emb i)) : sProp 𝕄) = ((c : Thread nD τ).loc b ↦[r.set]{fullShare} f) := by
  have h := owns_slice_read (Ix := Unit) (Name := ℕ) (U := UU) (Lvl := ℕ) (c : Thread nD τ) (Memref.whole b) fullShare r hr f
  rw [View.set_slice_whole] at h
  exact h

theorem own_slice_elim (r : Rect b.ty.shape) (hr : ∀ a, r.stride a = 1) (X : r.shape.Idx → Elt F b.ty.elt) :
    (own c ((Memref.whole b).slice r hr) X : sProp 𝕄)
      ⊢ iprop(∃ f : b.ty.Contents (Elt F), ⌜(fun i => f (r.emb i)) = X⌝ ∗ ((c : Thread nD τ).loc b ↦[r.set]{fullShare} f)) := by
  have hs : ((Memref.whole b).slice r hr).view.set = r.set := View.set_slice_whole b r
  unfold own ownsTc owns
  rw [hs]
  iintro ⟨%f, %hf, H⟩
  iexists f
  isplitr
  · ipureintro; exact hf
  · iexact H

theorem own_whole (f : b.ty.Contents (Elt F)) :
    (own c (Memref.whole b) f : sProp 𝕄) = ((c : Thread nD τ).loc b ↦{fullShare} f) :=
  owns_whole (c : Thread nD τ) b fullShare f

/-- A region cut in two. -/
theorem own_cut {r r₁ r₂ : Rect b.ty.shape} (hr : ∀ a, r.stride a = 1) (hr₁ : ∀ a, r₁.stride a = 1) (hr₂ : ∀ a, r₂.stride a = 1)
    (hd : Disjoint r₁.set r₂.set) (hu : r.set = r₁.set ∪ r₂.set)
    {X : r.shape.Idx → Elt F b.ty.elt} {X₁ : r₁.shape.Idx → Elt F b.ty.elt} {X₂ : r₂.shape.Idx → Elt F b.ty.elt}
    (h₁ : ∀ i, ∃ j, r.emb j = r₁.emb i ∧ X j = X₁ i) (h₂ : ∀ i, ∃ j, r.emb j = r₂.emb i ∧ X j = X₂ i) :
    (own c ((Memref.whole b).slice r hr) X : sProp 𝕄)
      ⊢ iprop(own c ((Memref.whole b).slice r₁ hr₁) X₁ ∗ own c ((Memref.whole b).slice r₂ hr₂) X₂) := by
  iintro H
  ihave H' := (own_slice_elim c b r hr X) $$ H
  icases H' with ⟨%f, %hf, H⟩
  subst hf
  have e₁ : X₁ = fun i => f (r₁.emb i) := by funext i; obtain ⟨j, e, e'⟩ := h₁ i; rw [← e', ← e]
  have e₂ : X₂ = fun i => f (r₂.emb i) := by funext i; obtain ⟨j, e, e'⟩ := h₂ i; rw [← e', ← e]
  subst e₁ e₂
  rw [own_slice, own_slice, hu]
  iapply (pointsTo_union hd).1; iexact H

/-- Two regions at the parts of one contents. -/
theorem own_glue {r r₁ r₂ : Rect b.ty.shape} (hr : ∀ a, r.stride a = 1) (hr₁ : ∀ a, r₁.stride a = 1) (hr₂ : ∀ a, r₂.stride a = 1)
    (hd : Disjoint r₁.set r₂.set) (hu : r.set = r₁.set ∪ r₂.set) (f : b.ty.Contents (Elt F)) :
    iprop(own c ((Memref.whole b).slice r₁ hr₁) (fun i => f (r₁.emb i)) ∗ own c ((Memref.whole b).slice r₂ hr₂) (fun i => f (r₂.emb i)))
      ⊢ (own c ((Memref.whole b).slice r hr) (fun i => f (r.emb i)) : sProp 𝕄) := by
  rw [own_slice, own_slice, own_slice, hu]
  exact (pointsTo_union hd).2

/-- Glued back at contents nothing is said of. -/
theorem any_glue {r r₁ r₂ : Rect b.ty.shape} (hr : ∀ a, r.stride a = 1) (hr₁ : ∀ a, r₁.stride a = 1) (hr₂ : ∀ a, r₂.stride a = 1)
    (hd : Disjoint r₁.set r₂.set) (hu : r.set = r₁.set ∪ r₂.set) :
    iprop(anyAt c ((Memref.whole b).slice r₁ hr₁) ∗ anyAt c ((Memref.whole b).slice r₂ hr₂))
      ⊢ (anyAt c ((Memref.whole b).slice r hr) : sProp 𝕄) := by
  unfold anyAt
  iintro ⟨⟨%X₁, H₁⟩, ⟨%X₂, H₂⟩⟩
  ihave H₁ := (own_slice_elim c b r₁ hr₁ X₁) $$ H₁
  ihave H₂ := (own_slice_elim c b r₂ hr₂ X₂) $$ H₂
  icases H₁ with ⟨%f₁, -, H₁⟩
  icases H₂ with ⟨%f₂, -, H₂⟩
  ihave H := (pointsTo_join (ℓ := (c : Thread nD τ).loc b) (f := f₁) (g := f₂) hd) $$ [H₁ H₂]
  · isplitl [H₁] <;> iassumption
  iexists _
  iapply (Entails.of_eq (own_slice c b r hr _).symm)
  rw [hu]; iexact H

/-- The whole buffer in two, and in four. -/
theorem any_two {r₁ r₂ : Rect b.ty.shape} (hr₁ : ∀ a, r₁.stride a = 1) (hr₂ : ∀ a, r₂.stride a = 1)
    (hd : Disjoint r₁.set r₂.set) (hu : Finset.univ = r₁.set ∪ r₂.set) :
    (anyAt c (Memref.whole b) : sProp 𝕄) ⊢ iprop(anyAt c ((Memref.whole b).slice r₁ hr₁) ∗ anyAt c ((Memref.whole b).slice r₂ hr₂)) := by
  unfold anyAt
  iintro ⟨%f, H⟩
  ihave H := (show (own c (Memref.whole b) f : sProp 𝕄) ⊢ ((c : Thread nD τ).loc b ↦[r₁.set ∪ r₂.set]{fullShare} f) by
    rw [← hu]; exact Entails.of_eq (own_whole c b f)) $$ H
  ihave H := (pointsTo_union hd).1 $$ H
  icases H with ⟨H₁, H₂⟩
  isplitl [H₁]
  · iexists _; iapply (Entails.of_eq (own_slice c b r₁ hr₁ f).symm); iexact H₁
  · iexists _; iapply (Entails.of_eq (own_slice c b r₂ hr₂ f).symm); iexact H₂

theorem any_two_back {r₁ r₂ : Rect b.ty.shape} (hr₁ : ∀ a, r₁.stride a = 1) (hr₂ : ∀ a, r₂.stride a = 1)
    (hd : Disjoint r₁.set r₂.set) (hu : Finset.univ = r₁.set ∪ r₂.set) :
    iprop(anyAt c ((Memref.whole b).slice r₁ hr₁) ∗ anyAt c ((Memref.whole b).slice r₂ hr₂)) ⊢ (anyAt c (Memref.whole b) : sProp 𝕄) := by
  unfold anyAt
  iintro ⟨⟨%X₁, H₁⟩, ⟨%X₂, H₂⟩⟩
  ihave H₁ := (own_slice_elim c b r₁ hr₁ X₁) $$ H₁
  ihave H₂ := (own_slice_elim c b r₂ hr₂ X₂) $$ H₂
  icases H₁ with ⟨%f₁, -, H₁⟩
  icases H₂ with ⟨%f₂, -, H₂⟩
  ihave H := (pointsTo_join (ℓ := (c : Thread nD τ).loc b) (f := f₁) (g := f₂) hd) $$ [H₁ H₂]
  · isplitl [H₁] <;> iassumption
  iexists _
  iapply (Entails.of_eq (own_whole c b _).symm)
  rw [hu]; iexact H

variable {r₁ r₂ r₃ r₄ : Rect b.ty.shape} (hr₁ : ∀ a, r₁.stride a = 1) (hr₂ : ∀ a, r₂.stride a = 1) (hr₃ : ∀ a, r₃.stride a = 1) (hr₄ : ∀ a, r₄.stride a = 1)
  (h₁₂ : Disjoint r₁.set r₂.set) (h₃ : Disjoint (r₁.set ∪ r₂.set) r₃.set) (h₄ : Disjoint (r₁.set ∪ r₂.set ∪ r₃.set) r₄.set)
  (hu : Finset.univ = r₁.set ∪ r₂.set ∪ r₃.set ∪ r₄.set)
include h₁₂ h₃ h₄ hu

theorem own_four (f : b.ty.Contents (Elt F)) : (own c (Memref.whole b) f : sProp 𝕄)
    = iprop(own c ((Memref.whole b).slice r₁ hr₁) (fun i => f (r₁.emb i)) ∗ own c ((Memref.whole b).slice r₂ hr₂) (fun i => f (r₂.emb i))
        ∗ own c ((Memref.whole b).slice r₃ hr₃) (fun i => f (r₃.emb i)) ∗ own c ((Memref.whole b).slice r₄ hr₄) (fun i => f (r₄.emb i))) := by
  rw [own_whole, own_slice, own_slice, own_slice, own_slice]
  have h : ((c : Thread nD τ).loc b ↦{fullShare} f : sProp 𝕄) = ((c : Thread nD τ).loc b ↦[r₁.set ∪ r₂.set ∪ r₃.set ∪ r₄.set]{fullShare} f) := by
    rw [← hu]
  rw [h]
  have a : ((c : Thread nD τ).loc b ↦[r₁.set ∪ r₂.set ∪ r₃.set ∪ r₄.set]{fullShare} f : sProp 𝕄)
      ⊢ iprop(((c : Thread nD τ).loc b ↦[r₁.set]{fullShare} f) ∗ ((c : Thread nD τ).loc b ↦[r₂.set]{fullShare} f)
        ∗ ((c : Thread nD τ).loc b ↦[r₃.set]{fullShare} f) ∗ ((c : Thread nD τ).loc b ↦[r₄.set]{fullShare} f)) := by
    iintro H
    ihave H := (pointsTo_union h₄).1 $$ H
    icases H with ⟨H, H4⟩
    ihave H := (pointsTo_union h₃).1 $$ H
    icases H with ⟨H, H3⟩
    ihave H := (pointsTo_union h₁₂).1 $$ H
    icases H with ⟨H1, H2⟩
    isplitl [H1]; · iexact H1
    isplitl [H2]; · iexact H2
    isplitl [H3] <;> iassumption
  have b' : iprop(((c : Thread nD τ).loc b ↦[r₁.set]{fullShare} f) ∗ ((c : Thread nD τ).loc b ↦[r₂.set]{fullShare} f)
        ∗ ((c : Thread nD τ).loc b ↦[r₃.set]{fullShare} f) ∗ ((c : Thread nD τ).loc b ↦[r₄.set]{fullShare} f))
      ⊢ ((c : Thread nD τ).loc b ↦[r₁.set ∪ r₂.set ∪ r₃.set ∪ r₄.set]{fullShare} f : sProp 𝕄) := by
    iintro ⟨H1, H2, H3, H4⟩
    iapply (pointsTo_union h₄).2
    isplitr [H4]
    · iapply (pointsTo_union h₃).2
      isplitr [H3]
      · iapply (pointsTo_union h₁₂).2
        isplitl [H1] <;> iassumption
      · iexact H3
    · iexact H4
  exact BI.equiv_iff.mp ⟨a, b'⟩

theorem any_four : (anyAt c (Memref.whole b) : sProp 𝕄)
    ⊢ iprop(anyAt c ((Memref.whole b).slice r₁ hr₁) ∗ anyAt c ((Memref.whole b).slice r₂ hr₂)
        ∗ anyAt c ((Memref.whole b).slice r₃ hr₃) ∗ anyAt c ((Memref.whole b).slice r₄ hr₄)) := by
  unfold anyAt
  iintro ⟨%f, H⟩
  ihave H := (Entails.of_eq (own_four c b hr₁ hr₂ hr₃ hr₄ h₁₂ h₃ h₄ hu f)) $$ H
  icases H with ⟨H1, H2, H3, H4⟩
  isplitl [H1]; · iexists _; iexact H1
  isplitl [H2]; · iexists _; iexact H2
  isplitl [H3]; · iexists _; iexact H3
  iexists _; iexact H4

end Cut

/-! ## The gather buffer -/

/-- A unit rectangle's elements, by their coordinates. -/
theorem unit_emb_val {s : Shape} (off size : Fin s.rank → ℕ) (inb) (j : (Rect.unit off size inb).shape.Idx) (a : Fin s.rank) :
    ((Rect.unit off size inb).emb j a : ℕ) = off a + j a := by
  rw [Rect.emb_apply]; show off a + 1 * (j a : ℕ) = _; omega

/-- Membership in a unit rectangle of a two-axis shape, by axis. -/
theorem mem2 {m n : ℕ} {off size : Fin 2 → ℕ} {inb : ∀ a, off a + size a ≤ (⟨2, ![m, n]⟩ : Shape).size a} {i : (⟨2, ![m, n]⟩ : Shape).Idx} :
    i ∈ (Rect.unit (s := ⟨2, ![m, n]⟩) off size inb).set
      ↔ (off 0 ≤ (i 0).val ∧ (i 0).val < off 0 + size 0) ∧ (off 1 ≤ (i 1).val ∧ (i 1).val < off 1 + size 1) := by
  rw [Rect.mem_set_unit]
  exact ⟨fun h => ⟨h 0, h 1⟩, fun h a => by
    match a with
    | 0 => exact h.1
    | 1 => exact h.2⟩

theorem val_lt (c : Dev nD) : c.val < 4 := c.isLt

abbrev rT (o : Fin 2 → ℕ) (h : ∀ a, o a + S1024x1024.size a ≤ S2048x2048.size a) : Rect S2048x2048 := Rect.unit (s := S2048x2048) o S1024x1024.size h
abbrev rQ (o : Fin 2 → ℕ) (h : ∀ a, o a + S512x1024.size a ≤ S2048x2048.size a) : Rect S2048x2048 := Rect.unit (s := S2048x2048) o S512x1024.size h

theorem memT {o : Fin 2 → ℕ} {h} {i : S2048x2048.Idx} :
    i ∈ (rT o h).set ↔ (o 0 ≤ (i 0).val ∧ (i 0).val < o 0 + 1024) ∧ (o 1 ≤ (i 1).val ∧ (i 1).val < o 1 + 1024) := mem2
theorem memQ {o : Fin 2 → ℕ} {h} {i : S2048x2048.Idx} :
    i ∈ (rQ o h).set ↔ (o 0 ≤ (i 0).val ∧ (i 0).val < o 0 + 512) ∧ (o 1 ≤ (i 1).val ∧ (i 1).val < o 1 + 1024) := mem2
theorem i0lt (i : S2048x2048.Idx) : (i 0).val < 2048 := (i 0).isLt
theorem i1lt (i : S2048x2048.Idx) : (i 1).val < 2048 := (i 1).isLt

theorem o3_0 (c : Dev nD) : k0_off3 c 0 = 1024 - 1024 * (c.val % 2) := congrFun (k0_off3_eq c) 0
theorem o3_1 (c : Dev nD) : k0_off3 c 1 = 0 := congrFun (k0_off3_eq c) 1
theorem o4_0 (c : Dev nD) : k0_off4 c 0 = 1024 - 1024 * (c.val / 2) := congrFun (k0_off4_eq c) 0
theorem o4_1 (c : Dev nD) : k0_off4 c 1 = 1024 := congrFun (k0_off4_eq c) 1
theorem o6_0 (c : Dev nD) : k0_off6 c 0 = 1024 * (c.val % 2) := congrFun (k0_off6_eq c) 0
theorem o6_1 (c : Dev nD) : k0_off6 c 1 = 0 := congrFun (k0_off6_eq c) 1
theorem o7_0 (c : Dev nD) : k0_off7 c 0 = (1024 * (c.val % 2) + 512) - 512 * (c.val / 2) := congrFun (k0_off7_eq c) 0
theorem o7_1 (c : Dev nD) : k0_off7 c 1 = 0 := congrFun (k0_off7_eq c) 1
theorem o9_0 (c : Dev nD) : k0_off9 c 0 = 1024 * (c.val / 2) := congrFun (k0_off9_eq c) 0
theorem o9_1 (c : Dev nD) : k0_off9 c 1 = 1024 := congrFun (k0_off9_eq c) 1
theorem o10_0 (c : Dev nD) : k0_off10 c 0 = (1024 * (c.val / 2) + 512) - 512 * (c.val % 2) := congrFun (k0_off10_eq c) 0
theorem o10_1 (c : Dev nD) : k0_off10 c 1 = 1024 := congrFun (k0_off10_eq c) 1
theorem o12_0 (c : Dev nD) : k0_off12 c 0 = 1024 * (c.val % 2) + 512 * (c.val / 2) := congrFun (k0_off12_eq c) 0
theorem o12_1 (c : Dev nD) : k0_off12 c 1 = 0 := congrFun (k0_off12_eq c) 1
theorem o14_0 (c : Dev nD) : k0_off14 c 0 = 1024 * (c.val / 2) + 512 * (c.val % 2) := congrFun (k0_off14_eq c) 0
theorem o14_1 (c : Dev nD) : k0_off14 c 1 = 1024 := congrFun (k0_off14_eq c) 1

theorem dAB0 (c : Dev nD) : Disjoint (rT _ (in3 c)).set (rT _ (in6 c)).set := Finset.disjoint_left.mpr fun i h h' => by
  rw [memT, o3_0] at h; rw [memT, o6_0] at h'; have := val_lt c; omega
theorem dAB0A1 (c : Dev nD) : Disjoint ((rT _ (in3 c)).set ∪ (rT _ (in6 c)).set) (rT _ (in4 c)).set := Finset.disjoint_left.mpr fun i h h' => by
  rw [Finset.mem_union, memT, memT, o3_1, o6_1] at h; rw [memT, o4_1] at h'; omega
theorem dAB0AB1 (c : Dev nD) : Disjoint ((rT _ (in3 c)).set ∪ (rT _ (in6 c)).set ∪ (rT _ (in4 c)).set) (rT _ (in9 c)).set :=
  Finset.disjoint_left.mpr fun i h h' => by
    rw [Finset.mem_union, Finset.mem_union, memT, memT, memT, o3_1, o6_1, o4_0, o4_1] at h; rw [memT, o9_0, o9_1] at h'
    have := val_lt c; omega
theorem uAB (c : Dev nD) : (Finset.univ : Finset S2048x2048.Idx) = (rT _ (in3 c)).set ∪ (rT _ (in6 c)).set ∪ (rT _ (in4 c)).set ∪ (rT _ (in9 c)).set := by
  ext i
  rw [Finset.mem_union, Finset.mem_union, Finset.mem_union, memT, memT, memT, memT, o3_0, o3_1, o6_0, o6_1, o4_0, o4_1, o9_0, o9_1]
  have := val_lt c; have := i0lt i; have := i1lt i
  simp only [Finset.mem_univ, true_iff]; omega

theorem dQS0 (c : Dev nD) : Disjoint (rQ _ (in12 c)).set (rQ _ (in7 c)).set := Finset.disjoint_left.mpr fun i h h' => by
  rw [memQ, o12_0] at h; rw [memQ, o7_0] at h'; have := val_lt c; omega
theorem uQS0 (c : Dev nD) : (rT _ (in6 c)).set = (rQ _ (in12 c)).set ∪ (rQ _ (in7 c)).set := by
  ext i
  rw [Finset.mem_union, memT, memQ, memQ, o6_0, o6_1, o12_0, o12_1, o7_0, o7_1]
  have := val_lt c; omega
theorem dQS1 (c : Dev nD) : Disjoint (rQ _ (in14 c)).set (rQ _ (in10 c)).set := Finset.disjoint_left.mpr fun i h h' => by
  rw [memQ, o14_0] at h; rw [memQ, o10_0] at h'; have := val_lt c; omega
theorem uQS1 (c : Dev nD) : (rT _ (in9 c)).set = (rQ _ (in14 c)).set ∪ (rQ _ (in10 c)).set := by
  ext i
  rw [Finset.mem_union, memT, memQ, memQ, o9_0, o9_1, o14_0, o14_1, o10_0, o10_1]
  have := val_lt c; omega

/-- The gather buffer is its four tiles. -/
theorem g_cut (c : Dev nD) : (anyAt c gM : sProp 𝕄) ⊢ iprop(anyAt c (gA0 c) ∗ anyAt c (gB0 c) ∗ anyAt c (gA1 c) ∗ anyAt c (gB1 c)) :=
  any_four c cc0_scratch0 (fun _ => rfl) (fun _ => rfl) (fun _ => rfl) (fun _ => rfl) (dAB0 c) (dAB0A1 c) (dAB0AB1 c) (uAB c)
theorem g_glue (c : Dev nD) (f : S2048x2048.Idx → Elt F .bf16) :
    iprop(own c (gA0 c) ((gA0 c).view.read (Elt F) f) ∗ own c (gB0 c) ((gB0 c).view.read (Elt F) f)
        ∗ own c (gA1 c) ((gA1 c).view.read (Elt F) f) ∗ own c (gB1 c) ((gB1 c).view.read (Elt F) f)) ⊢ (own c gM f : sProp 𝕄) :=
  Entails.of_eq (own_four c cc0_scratch0 (fun _ => rfl) (fun _ => rfl) (fun _ => rfl) (fun _ => rfl) (dAB0 c) (dAB0A1 c) (dAB0AB1 c) (uAB c) f).symm

theorem half_at {o o' : Fin 2 → ℕ} (h : ∀ a, o a + S1024x1024.size a ≤ S2048x2048.size a) (h' : ∀ a, o' a + S512x1024.size a ≤ S2048x2048.size a)
    (k : ℕ) (hk : k < 2) (e0 : o' 0 = o 0 + 512 * k) (e1 : o' 1 = o 1) (X : Tile F) (i : S512x1024.Idx) :
    ∃ j : S1024x1024.Idx, (rT o h).emb j = (rQ o' h').emb i ∧ X j = half k X i := by
  refine ⟨at2 1024 1024 (by decide) (by decide) (512 * k + (i 0).val) (i 1).val, ?_, rfl⟩
  have hi0 : (i 0).val < 512 := (i 0).isLt
  have hi1 : (i 1).val < 1024 := (i 1).isLt
  funext a
  apply Fin.ext
  rw [unit_emb_val, unit_emb_val]
  match a with
  | 0 => show o 0 + (512 * k + (i 0).val) % 1024 = o' 0 + (i 0).val; rw [Nat.mod_eq_of_lt (by omega)]; omega
  | 1 => show o 1 + (i 1).val % 1024 = o' 1 + (i 1).val; rw [Nat.mod_eq_of_lt (by omega)]; omega

/-- A kept tile is the quarter finished here and the one sent on. -/
theorem b0_cut (c : Dev nD) (X : Tile F) :
    (own c (gB0 c) X : sProp 𝕄) ⊢ iprop(own c (gQ0 c) (half (c.val / 2) X) ∗ own c (gS0 c) (half (1 - c.val / 2) X)) :=
  own_cut c cc0_scratch0 (r := rT _ (in6 c)) (r₁ := rQ _ (in12 c)) (r₂ := rQ _ (in7 c)) (fun _ => rfl) (fun _ => rfl) (fun _ => rfl) (dQS0 c) (uQS0 c)
    (fun i => half_at _ _ _ (by have := val_lt c; omega) (by rw [o12_0, o6_0]) (by rw [o12_1, o6_1]) X i)
    (fun i => half_at _ _ _ (by omega) (by rw [o7_0, o6_0]; have := val_lt c; omega) (by rw [o7_1, o6_1]) X i)
theorem b1_cut (c : Dev nD) (X : Tile F) :
    (own c (gB1 c) X : sProp 𝕄) ⊢ iprop(own c (gQ1 c) (half (c.val % 2) X) ∗ own c (gS1 c) (half (1 - c.val % 2) X)) :=
  own_cut c cc0_scratch0 (r := rT _ (in9 c)) (r₁ := rQ _ (in14 c)) (r₂ := rQ _ (in10 c)) (fun _ => rfl) (fun _ => rfl) (fun _ => rfl) (dQS1 c) (uQS1 c)
    (fun i => half_at _ _ _ (by omega) (by rw [o14_0, o9_0]) (by rw [o14_1, o9_1]) X i)
    (fun i => half_at _ _ _ (by omega) (by rw [o10_0, o9_0]; have := val_lt c; omega) (by rw [o10_1, o9_1]) X i)

variable (T : Dev nD → Fin 4 → Tile F)

theorem dv_self (c : Dev nD) (a b : ℕ) (ha : a = c.val / 2) (hb : b = c.val % 2) : dv a b = c := by
  subst ha hb; revert c; decide

/-- A finished quarter is the sum's restriction to its region. -/
theorem q0_read (c : Dev nD) : (gQ0 c).view.read (Elt F) (G T) = Q0 T c := by
  funext i
  have hi0 : (i 0).val < 512 := (i 0).isLt
  have hi1 : (i 1).val < 1024 := (i 1).isLt
  have e0 : ((rQ _ (in12 c)).emb i 0 : ℕ) = 1024 * (c.val % 2) + 512 * (c.val / 2) + (i 0).val := by rw [unit_emb_val, o12_0]
  have e1 : ((rQ _ (in12 c)).emb i 1 : ℕ) = (i 1).val := by rw [unit_emb_val, o12_1]; omega
  show G T ((rQ _ (in12 c)).emb i) = _
  unfold G
  rw [if_pos (by rw [e1]; omega), dv_self c _ _ (by rw [e0]; have := val_lt c; omega) (by rw [e0]; have := val_lt c; omega)]
  congr 1
  funext a; apply Fin.ext
  match a with
  | 0 => show ((rQ _ (in12 c)).emb i 0 : ℕ) % 512 = (i 0).val; rw [e0]; omega
  | 1 => show ((rQ _ (in12 c)).emb i 1 : ℕ) % 1024 = (i 1).val; rw [e1]; omega
theorem q1_read (c : Dev nD) : (gQ1 c).view.read (Elt F) (G T) = Q1 T c := by
  funext i
  have hi0 : (i 0).val < 512 := (i 0).isLt
  have hi1 : (i 1).val < 1024 := (i 1).isLt
  have e0 : ((rQ _ (in14 c)).emb i 0 : ℕ) = 1024 * (c.val / 2) + 512 * (c.val % 2) + (i 0).val := by rw [unit_emb_val, o14_0]
  have e1 : ((rQ _ (in14 c)).emb i 1 : ℕ) = 1024 + (i 1).val := by rw [unit_emb_val, o14_1]
  show G T ((rQ _ (in14 c)).emb i) = _
  unfold G
  rw [if_neg (by rw [e1]; omega), dv_self c _ _ (by rw [e0]; have := val_lt c; omega) (by rw [e0]; have := val_lt c; omega)]
  congr 1
  funext a; apply Fin.ext
  match a with
  | 0 => show ((rQ _ (in14 c)).emb i 0 : ℕ) % 512 = (i 0).val; rw [e0]; omega
  | 1 => show ((rQ _ (in14 c)).emb i 1 : ℕ) % 1024 = (i 1).val; rw [e1]; omega

theorem ownT_congr (c : Dev nD) {o o' : Fin 2 → ℕ} (e : o = o') (h h') (f : S2048x2048.Idx → Elt F .bf16) :
    (own c (gT o h) ((gT o h).view.read (Elt F) f) : sProp 𝕄) = own c (gT o' h') ((gT o' h').view.read (Elt F) f) := by subst e; rfl
theorem ownQ_congr (c : Dev nD) {o o' : Fin 2 → ℕ} (e : o = o') (h h') (f : S2048x2048.Idx → Elt F .bf16) :
    (own c (gQ o h) ((gQ o h).view.read (Elt F) f) : sProp 𝕄) = own c (gQ o' h') ((gQ o' h').view.read (Elt F) f) := by subst e; rfl

/-- The two quarters of a kept tile, both finished. -/
theorem b0_glue (c : Dev nD) :
    iprop(own c (gQ0 c) (Q0 T c) ∗ own c (gQ0 (xn c)) (Q0 T (xn c))) ⊢ (own c (gB0 c) ((gB0 c).view.read (Elt F) (G T)) : sProp 𝕄) := by
  rw [← q0_read T c, ← q0_read T (xn c), ownQ_congr c (show k0_off12 (xn c) = k0_off7 c by revert c; decide) _ (in7 c)]
  exact own_glue c cc0_scratch0 (r := rT _ (in6 c)) (r₁ := rQ _ (in12 c)) (r₂ := rQ _ (in7 c)) (fun _ => rfl) (fun _ => rfl) (fun _ => rfl) (dQS0 c) (uQS0 c) (G T)
theorem b1_glue (c : Dev nD) :
    iprop(own c (gQ1 c) (Q1 T c) ∗ own c (gQ1 (yn c)) (Q1 T (yn c))) ⊢ (own c (gB1 c) ((gB1 c).view.read (Elt F) (G T)) : sProp 𝕄) := by
  rw [← q1_read T c, ← q1_read T (yn c), ownQ_congr c (show k0_off14 (yn c) = k0_off10 c by revert c; decide) _ (in10 c)]
  exact own_glue c cc0_scratch0 (r := rT _ (in9 c)) (r₁ := rQ _ (in14 c)) (r₂ := rQ _ (in10 c)) (fun _ => rfl) (fun _ => rfl) (fun _ => rfl) (dQS1 c) (uQS1 c) (G T)

/-- All four tiles of the sum. -/
theorem g_done (c : Dev nD) :
    iprop(own c (gB0 c) ((gB0 c).view.read (Elt F) (G T)) ∗ own c (gB0 (yn c)) ((gB0 (yn c)).view.read (Elt F) (G T))
      ∗ own c (gB1 c) ((gB1 c).view.read (Elt F) (G T)) ∗ own c (gB1 (xn c)) ((gB1 (xn c)).view.read (Elt F) (G T)))
      ⊢ (own c gM (G T) : sProp 𝕄) := by
  rw [ownT_congr c (show k0_off6 (yn c) = k0_off3 c by revert c; decide) _ (in3 c),
    ownT_congr c (show k0_off9 (xn c) = k0_off4 c by revert c; decide) _ (in4 c)]
  iintro ⟨H1, H2, H3, H4⟩
  iapply (g_glue c (G T))
  isplitl [H2]; · iexact H2
  isplitl [H1]; · iexact H1
  isplitl [H4]; · iexact H4
  iexact H3

/-! ## The result's bands and the slots -/

/-- Membership in one layer of a three-axis shape. -/
theorem mem3 {l m n k : ℕ} {inb : ∀ a, (![k, 0, 0] : Fin 3 → ℕ) a + (⟨3, ![1, m, n]⟩ : Shape).size a ≤ (⟨3, ![l, m, n]⟩ : Shape).size a}
    {i : (⟨3, ![l, m, n]⟩ : Shape).Idx} :
    i ∈ (Rect.unit (s := ⟨3, ![l, m, n]⟩) ![k, 0, 0] (⟨3, ![1, m, n]⟩ : Shape).size inb).set ↔ (i 0).val = k := by
  rw [Rect.mem_set_unit]
  constructor
  · intro h; have h0 := h 0
    have h1 : k ≤ (i 0).val := h0.1
    have h2 : (i 0).val < k + 1 := h0.2
    omega
  · intro h a
    match a with
    | 0 => exact ⟨h.ge, by show (i 0).val < k + 1; omega⟩
    | 1 => exact ⟨Nat.zero_le _, by show (i 1).val < 0 + m; have : (i 1).val < m := (i 1).isLt; omega⟩
    | 2 => exact ⟨Nat.zero_le _, by show (i 2).val < 0 + n; have : (i 2).val < n := (i 2).isLt; omega⟩

theorem layers_disj {m n : ℕ} {inb inb'} :
    Disjoint (Rect.unit (s := ⟨3, ![2, m, n]⟩) ![0, 0, 0] (⟨3, ![1, m, n]⟩ : Shape).size inb).set
      (Rect.unit (s := ⟨3, ![2, m, n]⟩) ![1, 0, 0] (⟨3, ![1, m, n]⟩ : Shape).size inb').set :=
  Finset.disjoint_left.mpr fun i h h' => by rw [mem3] at h h'; omega
theorem layers_cover {m n : ℕ} {inb inb'} :
    (Finset.univ : Finset (⟨3, ![2, m, n]⟩ : Shape).Idx) = (Rect.unit (s := ⟨3, ![2, m, n]⟩) ![0, 0, 0] (⟨3, ![1, m, n]⟩ : Shape).size inb).set
      ∪ (Rect.unit (s := ⟨3, ![2, m, n]⟩) ![1, 0, 0] (⟨3, ![1, m, n]⟩ : Shape).size inb').set := by
  ext i; rw [Finset.mem_union, mem3, mem3]
  have : (i 0).val < 2 := (i 0).isLt
  simp only [Finset.mem_univ, true_iff]; omega

theorem ra_cut (c : Dev nD) : (anyAt c raM : sProp 𝕄) ⊢ iprop(anyAt c (raU 0) ∗ anyAt c (raU 1)) :=
  any_two c cc0_scratch3 (fun _ => rfl) (fun _ => rfl) layers_disj layers_cover
theorem ra_glue (c : Dev nD) : iprop(anyAt c (raU 0) ∗ anyAt c (raU 1)) ⊢ (anyAt c raM : sProp 𝕄) :=
  any_two_back c cc0_scratch3 (fun _ => rfl) (fun _ => rfl) layers_disj layers_cover
theorem rb_cut (c : Dev nD) : (anyAt c rbM : sProp 𝕄) ⊢ iprop(anyAt c (rbU 0) ∗ anyAt c (rbU 1)) :=
  any_two c cc0_scratch4 (fun _ => rfl) (fun _ => rfl) layers_disj layers_cover
theorem rb_glue (c : Dev nD) : iprop(anyAt c (rbU 0) ∗ anyAt c (rbU 1)) ⊢ (anyAt c rbM : sProp 𝕄) :=
  any_two_back c cc0_scratch4 (fun _ => rfl) (fun _ => rfl) layers_disj layers_cover
theorem st_cut (c : Dev nD) : (anyAt c stM : sProp 𝕄) ⊢ iprop(anyAt c (stU 0) ∗ anyAt c (stU 1)) :=
  any_two c cc0_scratch2 (fun _ => rfl) (fun _ => rfl) layers_disj layers_cover
theorem st_glue (c : Dev nD) : iprop(anyAt c (stU 0) ∗ anyAt c (stU 1)) ⊢ (anyAt c stM : sProp 𝕄) :=
  any_two_back c cc0_scratch2 (fun _ => rfl) (fun _ => rfl) layers_disj layers_cover

abbrev rO (k : ℕ) (h : ∀ a, (![k, 0] : Fin 2 → ℕ) a + S512x2048.size a ≤ S2048x2048.size a) : Rect S2048x2048 :=
  Rect.unit (s := S2048x2048) ![k, 0] S512x2048.size h
theorem memO {k : ℕ} {h} {i : S2048x2048.Idx} : i ∈ (rO k h).set ↔ k ≤ (i 0).val ∧ (i 0).val < k + 512 := by
  rw [show (i ∈ (rO k h).set) = _ from propext mem2]
  have := i1lt i
  constructor
  · exact fun h => h.1
  · exact fun h => ⟨h, by show 0 ≤ (i 1).val ∧ (i 1).val < 0 + 2048; omega⟩

theorem dO12 : Disjoint (rO 0 inb_S2048x2048_S512x2048_0_0).set (rO 512 inb_S2048x2048_S512x2048_512_0).set :=
  Finset.disjoint_left.mpr fun i h h' => by rw [memO] at h h'; omega
theorem dO3 : Disjoint ((rO 0 inb_S2048x2048_S512x2048_0_0).set ∪ (rO 512 inb_S2048x2048_S512x2048_512_0).set) (rO 1024 inb_S2048x2048_S512x2048_1024_0).set :=
  Finset.disjoint_left.mpr fun i h h' => by rw [Finset.mem_union, memO, memO] at h; rw [memO] at h'; omega
theorem dO4 : Disjoint ((rO 0 inb_S2048x2048_S512x2048_0_0).set ∪ (rO 512 inb_S2048x2048_S512x2048_512_0).set ∪ (rO 1024 inb_S2048x2048_S512x2048_1024_0).set)
    (rO 1536 inb_S2048x2048_S512x2048_1536_0).set :=
  Finset.disjoint_left.mpr fun i h h' => by rw [Finset.mem_union, Finset.mem_union, memO, memO, memO] at h; rw [memO] at h'; omega
theorem uO : (Finset.univ : Finset S2048x2048.Idx) = (rO 0 inb_S2048x2048_S512x2048_0_0).set ∪ (rO 512 inb_S2048x2048_S512x2048_512_0).set
    ∪ (rO 1024 inb_S2048x2048_S512x2048_1024_0).set ∪ (rO 1536 inb_S2048x2048_S512x2048_1536_0).set := by
  ext i; rw [Finset.mem_union, Finset.mem_union, Finset.mem_union, memO, memO, memO, memO]
  have := i0lt i
  simp only [Finset.mem_univ, true_iff]; omega

theorem out_cut (c : Dev nD) : (anyAt c outM : sProp 𝕄) ⊢ iprop(anyAt c (outR 0) ∗ anyAt c (outR 1) ∗ anyAt c (outR 2) ∗ anyAt c (outR 3)) :=
  any_four c main_v17 (fun _ => rfl) (fun _ => rfl) (fun _ => rfl) (fun _ => rfl) dO12 dO3 dO4 uO

theorem outC_at (k : ℕ) (h) (b : Fin 4) (hb : k = 512 * b.val) : (fun i => Out T ((rO k h).emb i)) = outC T b := by
  funext i
  unfold outC
  have hi0 : (i 0).val < 512 := (i 0).isLt
  have hi1 : (i 1).val < 2048 := (i 1).isLt
  have hbl : b.val < 4 := b.isLt
  congr 1
  funext a; apply Fin.ext
  rw [unit_emb_val]
  match a with
  | 0 => show k + (i 0).val = (512 * b.val + (i 0).val) % 2048; omega
  | 1 => show 0 + (i 1).val = (i 1).val % 2048; omega

theorem out_glue (c : Dev nD) :
    iprop(own c (outR 0) (outC T 0) ∗ own c (outR 1) (outC T 1) ∗ own c (outR 2) (outC T 2) ∗ own c (outR 3) (outC T 3)) ⊢ (own c outM (Out T) : sProp 𝕄) := by
  rw [← outC_at T 0 inb_S2048x2048_S512x2048_0_0 0 rfl, ← outC_at T 512 inb_S2048x2048_S512x2048_512_0 1 rfl,
    ← outC_at T 1024 inb_S2048x2048_S512x2048_1024_0 2 rfl, ← outC_at T 1536 inb_S2048x2048_S512x2048_1536_0 3 rfl]
  exact Entails.of_eq (own_four c main_v17 (fun _ => rfl) (fun _ => rfl) (fun _ => rfl) (fun _ => rfl) dO12 dO3 dO4 uO (Out T)).symm

end Cert.Talk
-- ==== Proof.Phase.lean ====
module

public import Idealize.ShloMosaic.Lib.Tactic
public import proofs.«01_k».proof.Proof.Steps
public import proofs.«01_k».proof.Proof.Geom
public import proofs.«01_k».proof.Proof.Gen.KernelIdeal.Skeleton
public import proofs.«01_k».proof.Proof.Gen.KernelIdeal.Points

/-! What a device holds between the grid points, and a point that only starts a tile. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## One exchange: not begun, under way, over -/

def E0 (c : Dev nD) (j : Fin 8) : sProp 𝕄 :=
  iprop(dutyTok ER (sC c j) 0 0 ∗ dutyTok ER (rC (tgt c j) j) 0 0 ∗ atPos ER (sC c j) 0 ∅ 0 ∗ atPos ER (rC c j) 0 ∅ 0
    ∗ cred (tallyAt (rC c j) () (amt j)))
def E1 (c : Dev nD) (j : Fin 8) : sProp 𝕄 :=
  iprop(atPos ER (sC c j) 0 ∅ 0 ∗ atPos ER (rC c j) 0 ∅ 0 ∗ cred (tallyAt (rC c j) () (amt j)) ∗ cred (tallyAt (sC c j) () (amt j)))
def E2 (c : Dev nD) (j : Fin 8) : sProp 𝕄 := iprop(semVal (sC c j) 0 ∗ semVal (rC c j) 0)

/-- What the copies out need. -/
def Cp (c : Dev nD) : sProp 𝕄 :=
  iprop((atPos ER (cC c 0) 0 ∅ 0 ∗ atPos ER (cC c 1) 0 ∅ 0)
    ∗ (dutyTok ER (cC c 0) 0 0 ∗ dutyTok ER (cC c 0) 1 0 ∗ dutyTok ER (cC c 1) 0 0 ∗ dutyTok ER (cC c 1) 1 0)
    ∗ (anyAt c (stU 0) ∗ anyAt c (stU 1)) ∗ anyAt c (outR 0) ∗ anyAt c (outR 1) ∗ anyAt c (outR 2) ∗ anyAt c (outR 3))

variable (T : Dev nD → Fin 4 → Tile F)

/-! ## Between the points -/

/-- Before the barrier. -/
def S0 (c : Dev nD) : sProp 𝕄 :=
  iprop((atPos ER (barC c) 0 ∅ 0 ∗ cred (tallyAt (barC c) () 2) ∗ dutyTok ER (barC (yn c)) 0 0 ∗ dutyTok ER (barC (xn c)) 0 1)
    ∗ (anyAt c (raR 0) ∗ anyAt c (raR 1) ∗ anyAt c (rbR 0) ∗ anyAt c (rbR 1))
    ∗ (anyAt c (gA0 c) ∗ anyAt c (gB0 c) ∗ anyAt c (gA1 c) ∗ anyAt c (gB1 c))
    ∗ (E0 c 0 ∗ E0 c 1 ∗ E0 c 2 ∗ E0 c 3 ∗ E0 c 4 ∗ E0 c 5 ∗ E0 c 6 ∗ E0 c 7) ∗ Cp c)
/-- The first tile on its way. -/
def S1 (c : Dev nD) : sProp 𝕄 :=
  iprop((semVal (barC c) 0 ∗ marks (yn c) ∗ marks (xn c))
    ∗ (anyAt (xn c) (raR 1) ∗ anyAt (xn c) (rbR 0) ∗ anyAt (yn c) (rbR 1))
    ∗ (anyAt c (gB0 c) ∗ anyAt c (gA1 c) ∗ anyAt c (gB1 c))
    ∗ (E1 c 0 ∗ E0 c 1 ∗ E0 c 2 ∗ E0 c 3 ∗ E0 c 4 ∗ E0 c 5 ∗ E0 c 6 ∗ E0 c 7) ∗ Cp c)
/-- The second too. -/
def S2 (c : Dev nD) : sProp 𝕄 :=
  iprop((semVal (barC c) 0 ∗ marks (yn c) ∗ marks (xn c))
    ∗ (anyAt (xn c) (rbR 0) ∗ anyAt (yn c) (rbR 1))
    ∗ (anyAt c (gB0 c) ∗ anyAt c (gB1 c))
    ∗ (E1 c 0 ∗ E0 c 1 ∗ E0 c 2 ∗ E0 c 3 ∗ E1 c 4 ∗ E0 c 5 ∗ E0 c 6 ∗ E0 c 7) ∗ Cp c)
/-- The first sum along y made, a quarter of it on its way. -/
def S3 (c : Dev nD) : sProp 𝕄 :=
  iprop((semVal (barC c) 0 ∗ marks (yn c) ∗ marks (xn c))
    ∗ (anyAt c (raR 0) ∗ anyAt (yn c) (rbR 1))
    ∗ (own c (gQ0 c) (half (c.val / 2) (B0 T c)) ∗ anyAt (yn c) (gA0 (yn c)) ∗ anyAt c (gB1 c))
    ∗ (E2 c 0 ∗ E1 c 1 ∗ E0 c 2 ∗ E0 c 3 ∗ E1 c 4 ∗ E0 c 5 ∗ E0 c 6 ∗ E0 c 7) ∗ Cp c)
/-- All over. -/
def S4 (c : Dev nD) : sProp 𝕄 :=
  iprop(semVal (barC c) 0 ∗ (anyAt c (raR 0) ∗ anyAt c (raR 1) ∗ anyAt c (rbR 0) ∗ anyAt c (rbR 1))
    ∗ (own c gM (G T) ∗ anyAt c (stR 0) ∗ anyAt c (stR 1) ∗ own c outM (Out T))
    ∗ (E2 c 0 ∗ E2 c 1 ∗ E2 c 2 ∗ E2 c 3 ∗ E2 c 4 ∗ E2 c 5 ∗ E2 c 6 ∗ E2 c 7) ∗ semVal (cC c 0) 0 ∗ semVal (cC c 1) 0)

/-! ## The accumulator and a point's operands -/

/-- The accumulator as the body addresses it. -/
abbrev accS : Memref sig .tc .vmem S1024x1024 .f32 :=
  accM.slice (Rect.unit (s := S1024x1024) ![0, 0] S1024x1024.size inb_S1024x1024_S1024x1024_0_0) (fun _ => rfl)

/-- The rows of the left operand this point uses; the right operand's block. -/
def dyAt (i : grid0.Coords) (c : Dev nD) (X₂ : S2048x4096.Idx → Elt F .bf16) : Vec F S1024x2048 .bf16 :=
  fun j => X₂ ((Rect.unit (s := S2048x4096) (k0_off1 i c) S1024x2048.size (k0_off1_inb i c)).emb j)
def wAt (X₃ : S1024x2048.Idx → Elt F .bf16) : Vec F S1024x2048 .bf16 :=
  fun j => X₃ ((Rect.unit (s := S1024x2048) ![0, 0] S1024x2048.size inb_S1024x2048_S1024x2048_0_0).emb j)
/-- The product a starting point puts into the accumulator; the tile a closing point stores. -/
def accOf (i : grid0.Coords) (c : Dev nD) (X₂ : S2048x4096.Idx → Elt F .bf16) (X₃ : S1024x2048.Idx → Elt F .bf16) : S1024x1024.Idx → Elt F .f32 :=
  k0_pay12 (k0_pay9 (dyAt i c X₂)) (k0_pay10 (wAt X₃))
def tileOf (i : grid0.Coords) (c : Dev nD) (X₂ : S2048x4096.Idx → Elt F .bf16) (X₃ : S1024x2048.Idx → Elt F .bf16) (A : S1024x1024.Idx → Elt F .f32) : Tile F :=
  k0_pay13 (k0_pay9 (dyAt i c X₂)) (k0_pay10 (wAt X₃)) A

/-- The body on the kernel's own buffers, its two operands anywhere. -/
abbrev bodyOn (i : grid0.Coords) (m₂ : Memref sig .tc .vmem S2048x4096 .bf16) (h₂ : m₂.IsWhole) (m₃ : Memref sig .tc .vmem S1024x2048 .bf16) (h₃ : m₃.IsWhole) :
    Prog (TpuEff nD τ sig (Elt F) Λ₀ .tc) PUnit :=
  cc0_body i m₂ h₂ m₃ h₃ (Memref.whole main_v17) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7

/-- Whether a point starts a tile, as the body asks it. -/
abbrev cond1 (i : grid0.Coords) : BitVec 1 := Scalar.cmpi .ne (Scalar.extui (Scalar.cmpi .eq (BitVec.ofNat 32 (i 1).val) 0#32) : BitVec 32) 0#32

/-! ## Conditionals whose condition is known -/

theorem step_then (c : Dev nD) {α : Type} (Kt : PUnit → sProp 𝕄) {C : Prop} {d : Decidable C} (h : C) {t : C → Prog (TpuEff nD τ sig (Elt F) Λ₀ .tc) α}
    {e : ¬ C → Prog (TpuEff nD τ sig (Elt F) Λ₀ .tc) α} {k : α → Prog (TpuEff nD τ sig (Elt F) Λ₀ .tc) PUnit} :
    wp frame (wpE (defs₀ (F := F)) 𝒱₀ (c : Thread nD τ) none) Set.univ (t h >>= k) Kt
      ⊢ wp frame (wpE (defs₀ (F := F)) 𝒱₀ (c : Thread nD τ) none) Set.univ (@dite _ C d t e >>= k) Kt := by
  rw [dif_pos h]
theorem step_else (c : Dev nD) {α : Type} (Kt : PUnit → sProp 𝕄) {C : Prop} {d : Decidable C} (h : ¬ C) {t : C → Prog (TpuEff nD τ sig (Elt F) Λ₀ .tc) α}
    {e : ¬ C → Prog (TpuEff nD τ sig (Elt F) Λ₀ .tc) α} {k : α → Prog (TpuEff nD τ sig (Elt F) Λ₀ .tc) PUnit} :
    wp frame (wpE (defs₀ (F := F)) 𝒱₀ (c : Thread nD τ) none) Set.univ (e h >>= k) Kt
      ⊢ wp frame (wpE (defs₀ (F := F)) 𝒱₀ (c : Thread nD τ) none) Set.univ (@dite _ C d t e >>= k) Kt := by
  rw [dif_neg h]

theorem run_even (c : Dev nD) (Kt : PUnit → sProp 𝕄) (m₂ : Memref sig .tc .vmem S2048x4096 .bf16) (h₂ : m₂.IsWhole) (m₃ : Memref sig .tc .vmem S1024x2048 .bf16) (h₃ : m₃.IsWhole)
  (X₂ : S2048x4096.Idx → Elt F .bf16) (X₃ : S1024x2048.Idx → Elt F .bf16)
    (i : grid0.Coords) (g1 : cond1 i = 1#1) (g2 : ¬ k0_cond2 i = 1#1) (g3 : ¬ k0_cond3 i = 1#1) (g4 : ¬ k0_cond4 i = 1#1)
    (g5 : ¬ k0_cond5 i = 1#1) (g6 : ¬ k0_cond6 i = 1#1) :
    iprop(own c m₂ X₂ ∗ own c m₃ X₃ ∗ anyAt c accS)
      ⊢ iprop(((own c m₂ X₂ ∗ own c m₃ X₃ ∗ own c accS (accOf i c X₂ X₃)) -∗ Kt ⟨⟩)
        -∗ wp frame (wpE (defs₀ (F := F)) 𝒱₀ (c : Thread nD τ) none) Set.univ (bodyOn i m₂ h₂ m₃ h₃) Kt) := by
  unfold bodyOn
  simp only [cc0_body_eq_skeleton]
  unfold cc0_body_skel
  simp only [k0_part10_eq_skeleton, k0_part11_eq_skeleton]
  unfold k0_part10_skel k0_part11_skel
  simp only [Prog.lift, Prog.bind_op, Prog.bind_ret, Prog.pure_eq_ret, Prog.bind_assoc, wp_deviceId]
  iintro ⟨H2, H3, HA⟩ Hk
  iapply (step_load_part c Kt) $$ [H2]; · iexact H2
  iintro H2
  iapply (step_load_part c Kt) $$ [H3]; · iexact H3
  iintro H3
  iapply (step_then c Kt g1)
  simp only [Prog.bind_op, Prog.bind_ret]
  iapply (step_load_any c Kt) $$ [HA]; · iexact HA
  iintro %A HA
  iapply (step_store c Kt) $$ [HA]; · iexact HA
  iintro HA
  iapply (step_else c Kt g2)
  iapply (step_else c Kt g3)
  iapply (step_else c Kt g4)
  iapply (step_else c Kt g5)
  iapply (step_else c Kt g6)
  iapply (le_wp_ret _ _)
  iapply Hk
  isplitl [H2]; · iexact H2
  isplitl [H3]; · iexact H3
  iexact HA

end Cert.Talk
-- ==== Proof.Run1.lean ====
module

public import proofs.«01_k».proof.Proof.Phase

/-! The point that ends the first tile: the tile stored, the barrier, the tile's copy along y begun; and the point that
ends the second: its copy along x begun. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (T : Dev nD → Fin 4 → Tile F) (K : GSem nD τ sig → ℕ)

/-- The exchanges whose receive credits are still owed after the first copy, the second, and so on. -/
abbrev D1 : Finset (Fin 8) := Finset.univ.erase 0
abbrev D2 : Finset (Fin 8) := D1.erase 4
abbrev D3 : Finset (Fin 8) := D2.erase 1
abbrev D4 : Finset (Fin 8) := D3.erase 5
abbrev D5 : Finset (Fin 8) := D4.erase 2
abbrev D6 : Finset (Fin 8) := D5.erase 6
abbrev D7 : Finset (Fin 8) := D6.erase 3

theorem any_eq {sp : Space} {s : Shape} {e : EltTy} (c : Dev nD) {m m' : Memref sig .tc sp s e} (h : m = m') :
    (anyAt c m : sProp 𝕄) ⊢ anyAt c m' := by rw [h]
theorem own_eq {sp : Space} {s : Shape} {e : EltTy} (c : Dev nD) {m m' : Memref sig .tc sp s e} (h : m = m') {X Y : s.Idx → Elt F e} (hx : X = Y) :
    (own c m X : sProp 𝕄) ⊢ own c m' Y := by rw [h, hx]

/-! ## The devices the program names -/

theorem pd1 (c : Dev nD) (h : k0_dev1 c < nD) : (⟨k0_dev1 c, h⟩ : Dev nD) = yn c := Fin.ext (by revert c; decide)
theorem pd2 (c : Dev nD) (h : k0_dev2 c < nD) : (⟨k0_dev2 c, h⟩ : Dev nD) = xn c := Fin.ext (by revert c; decide)
theorem pd3 (c : Dev nD) (h : k0_dev3 c < nD) : (⟨k0_dev3 c, h⟩ : Dev nD) = tgt c 0 := Fin.ext (by revert c; decide)
theorem pd4 (c : Dev nD) (h : k0_dev4 c < nD) : (⟨k0_dev4 c, h⟩ : Dev nD) = tgt c 4 := Fin.ext (by revert c; decide)
theorem pd5 (c : Dev nD) (h : k0_dev5 c < nD) : (⟨k0_dev5 c, h⟩ : Dev nD) = tgt c 1 := Fin.ext (by revert c; decide)
theorem pd6 (c : Dev nD) (h : k0_dev6 c < nD) : (⟨k0_dev6 c, h⟩ : Dev nD) = tgt c 5 := Fin.ext (by revert c; decide)
theorem pd7 (c : Dev nD) (h : k0_dev7 c < nD) : (⟨k0_dev7 c, h⟩ : Dev nD) = tgt c 2 := Fin.ext (by revert c; decide)
theorem pd8 (c : Dev nD) (h : k0_dev8 c < nD) : (⟨k0_dev8 c, h⟩ : Dev nD) = tgt c 6 := Fin.ext (by revert c; decide)
theorem pd9 (c : Dev nD) (h : k0_dev9 c < nD) : (⟨k0_dev9 c, h⟩ : Dev nD) = tgt c 3 := Fin.ext (by revert c; decide)
theorem pd10 (c : Dev nD) (h : k0_dev10 c < nD) : (⟨k0_dev10 c, h⟩ : Dev nD) = tgt c 7 := Fin.ext (by revert c; decide)

theorem run_1 (c : Dev nD) (Kt : PUnit → sProp 𝕄) (m₂ : Memref sig .tc .vmem S2048x4096 .bf16) (h₂ : m₂.IsWhole) (m₃ : Memref sig .tc .vmem S1024x2048 .bf16) (h₃ : m₃.IsWhole)
    (X₂ : S2048x4096.Idx → Elt F .bf16) (X₃ : S1024x2048.Idx → Elt F .bf16) (A : S1024x1024.Idx → Elt F .f32)
    (i : grid0.Coords) (g1 : ¬ cond1 i = 1#1) (g2 : k0_cond2 i = 1#1) (g3 : k0_cond3 i = 1#1) (g4 : ¬ k0_cond4 i = 1#1)
    (g5 : ¬ k0_cond5 i = 1#1) (g6 : ¬ k0_cond6 i = 1#1) (ho : k0_off2 i c = k0_off3 c) (hT : T c 0 = tileOf i c X₂ X₃ A) (W : Waits sig Unit) :
    iprop(base T K c ∗ own c m₂ X₂ ∗ own c m₃ X₃ ∗ own c accS A ∗ owes (c : Thread nD τ) (O₀ c) W ∗ S0 c)
      ⊢ iprop(((own c m₂ X₂ ∗ own c m₃ X₃ ∗ anyAt c accS ∗ owing c (D1) ∗ S1 c) -∗ Kt ⟨⟩)
        -∗ wp frame (wpE (defs₀ (F := F)) 𝒱₀ (c : Thread nD τ) none) Set.univ (bodyOn i m₂ h₂ m₃ h₃) Kt) := by
  unfold bodyOn
  simp only [cc0_body_eq_skeleton]
  unfold cc0_body_skel
  simp only [k0_part10_eq_skeleton, k0_part11_eq_skeleton]
  unfold k0_part10_skel k0_part11_skel
  simp only [Prog.lift, Prog.bind_op, Prog.bind_ret, Prog.pure_eq_ret, Prog.bind_assoc, wp_deviceId]
  unfold S0 S1
  iintro ⟨#HB, H2, H3, HA, HO, ⟨⟨Hat, Hcr, HtY, HtX⟩, ⟨Hra0, Hra1, Hrb0, Hrb1⟩, ⟨HA0, HB0, HA1, HB1⟩, ⟨HE0, HE1, HE2, HE3, HE4, HE5, HE6, HE7⟩, HCp⟩⟩ Hk
  iapply (step_load_part c Kt) $$ [H2]; · iexact H2
  iintro H2
  iapply (step_load_part c Kt) $$ [H3]; · iexact H3
  iintro H3
  iapply (step_else c Kt g1)
  iapply (step_then c Kt g2)
  simp only [Prog.bind_op, Prog.bind_ret]
  iapply (step_load c Kt (hr := fun _ => rfl)) $$ [HA]; · iexact HA
  iintro HA
  iapply (step_load_any c Kt (hr := fun _ => rfl)) $$ [HA0]
  · iapply (any_eq c (gT_congr ho (k0_off2_inb i c g2) (in3 c)).symm); iexact HA0
  iintro %Z HA0
  iapply (step_store c Kt (hr := fun _ => rfl)) $$ [HA0]; · iexact HA0
  iintro HA0
  iapply (step_then c Kt g3)
  simp only [semSignalWord, semWaitWord, Prog.lift, Prog.bind_op, Prog.bind_ret]
  iapply (step_sigY T K c _ Kt (pd1 c _) rfl (W := W)) $$ [HO HtY Hra0 Hrb1]
  · isplitr; · iexact HB
    isplitl [HO]; · iexact HO
    isplitl [HtY]; · iexact HtY
    isplitl [Hra0]; · iexact Hra0
    iexact Hrb1
  iintro HO
  iapply (step_sigX T K c _ Kt (pd2 c _) rfl (W := W)) $$ [HO HtX Hra1 Hrb0]
  · isplitr; · iexact HB
    isplitl [HO]; · iexact HO
    isplitl [HtX]; · iexact HtX
    isplitl [Hra1]; · iexact Hra1
    iexact Hrb0
  iintro HO
  iapply (step_bar T K c Kt rfl) $$ [HO Hcr Hat]
  · isplitr; · iexact HB
    isplitl [Hcr]; · iexact Hcr
    isplitl [HO]; · iexact HO
    iexact Hat
  unfold barY barX
  iintro ⟨HO, Hv, ⟨HyA, HyB, #HmY⟩, ⟨HxA, HxB, #HmX⟩⟩
  unfold E0 E1
  icases HE0 with ⟨Ht1, Ht2, HaS, HaR, HcR⟩
  iapply (step_land T K c _ Kt 0 (pd3 c _) rfl rfl (dst := raR 0) (X := T c 0) rfl Finset.univ (D1) (by decide) (by decide) rfl
    (by show _ ⊢ iprop(own (yn c) (raR 0) (T (yn (yn c)) 0) ∗ anyAt (yn (yn c)) (gA0 (yn (yn c)))); rw [yn_yn]; exact .rfl)) $$ [HA0 HyA HO Ht1 Ht2]
  · isplitr; · iexact HB
    isplitr
    · iapply (marks_at (F := F) (yn c) 8); iexact HmY
    isplitl [HA0]
    · iapply (own_eq c (gT_congr ho (k0_off2_inb i c g2) (in3 c)) hT.symm); iexact HA0
    isplitl [HyA]; · iexact HyA
    isplitl [HO]; · iexact HO
    isplitl [Ht1]; · iexact Ht1
    iexact Ht2
  iintro ⟨HcS, HO⟩
  iapply (step_else c Kt g4)
  iapply (step_else c Kt g5)
  iapply (step_else c Kt g6)
  iapply (le_wp_ret _ _)
  iapply Hk
  isplitl [H2]; · iexact H2
  isplitl [H3]; · iexact H3
  isplitl [HA]; · iapply (own_any c accS A); iexact HA
  isplitl [HO]; · iexact HO
  isplitl [Hv]
  · isplitl [Hv]; · iexact Hv
    isplitr; · iexact HmY
    iexact HmX
  isplitl [HxA HxB HyB]
  · isplitl [HxA]; · iexact HxA
    isplitl [HxB]; · iexact HxB
    iexact HyB
  isplitl [HB0 HA1 HB1]
  · isplitl [HB0]; · iexact HB0
    isplitl [HA1]; · iexact HA1
    iexact HB1
  isplitr [HCp]
  · isplitl [HaS HaR HcR HcS]
    · isplitl [HaS]; · iexact HaS
      isplitl [HaR]; · iexact HaR
      isplitl [HcR]; · iexact HcR
      iexact HcS
    isplitl [HE1]; · iexact HE1
    isplitl [HE2]; · iexact HE2
    isplitl [HE3]; · iexact HE3
    isplitl [HE4]; · iexact HE4
    isplitl [HE5]; · iexact HE5
    isplitl [HE6]; · iexact HE6
    iexact HE7
  iexact HCp

theorem run_3 (c : Dev nD) (Kt : PUnit → sProp 𝕄) (m₂ : Memref sig .tc .vmem S2048x4096 .bf16) (h₂ : m₂.IsWhole) (m₃ : Memref sig .tc .vmem S1024x2048 .bf16) (h₃ : m₃.IsWhole)
    (X₂ : S2048x4096.Idx → Elt F .bf16) (X₃ : S1024x2048.Idx → Elt F .bf16) (A : S1024x1024.Idx → Elt F .f32)
    (i : grid0.Coords) (g1 : ¬ cond1 i = 1#1) (g2 : k0_cond2 i = 1#1) (g3 : ¬ k0_cond3 i = 1#1) (g4 : k0_cond4 i = 1#1)
    (g5 : ¬ k0_cond5 i = 1#1) (g6 : ¬ k0_cond6 i = 1#1) (ho : k0_off2 i c = k0_off4 c) (hT : T c 1 = tileOf i c X₂ X₃ A) :
    iprop(base T K c ∗ own c m₂ X₂ ∗ own c m₃ X₃ ∗ own c accS A ∗ owing c (D1) ∗ S1 c)
      ⊢ iprop(((own c m₂ X₂ ∗ own c m₃ X₃ ∗ anyAt c accS ∗ owing c D2 ∗ S2 c) -∗ Kt ⟨⟩)
        -∗ wp frame (wpE (defs₀ (F := F)) 𝒱₀ (c : Thread nD τ) none) Set.univ (bodyOn i m₂ h₂ m₃ h₃) Kt) := by
  unfold bodyOn
  simp only [cc0_body_eq_skeleton]
  unfold cc0_body_skel
  simp only [k0_part10_eq_skeleton, k0_part11_eq_skeleton]
  unfold k0_part10_skel k0_part11_skel
  simp only [Prog.lift, Prog.bind_op, Prog.bind_ret, Prog.pure_eq_ret, Prog.bind_assoc, wp_deviceId]
  unfold S1 S2
  iintro ⟨#HB, H2, H3, HA, HO, ⟨⟨Hv, #HmY, #HmX⟩, ⟨HxA, HxB, HyB⟩, ⟨HB0, HA1, HB1⟩, ⟨HE0, HE1, HE2, HE3, HE4, HE5, HE6, HE7⟩, HCp⟩⟩ Hk
  iapply (step_load_part c Kt) $$ [H2]; · iexact H2
  iintro H2
  iapply (step_load_part c Kt) $$ [H3]; · iexact H3
  iintro H3
  iapply (step_else c Kt g1)
  iapply (step_then c Kt g2)
  simp only [Prog.bind_op, Prog.bind_ret]
  iapply (step_load c Kt (hr := fun _ => rfl)) $$ [HA]; · iexact HA
  iintro HA
  iapply (step_load_any c Kt (hr := fun _ => rfl)) $$ [HA1]
  · iapply (any_eq c (gT_congr ho (k0_off2_inb i c g2) (in4 c)).symm); iexact HA1
  iintro %Z HA1
  iapply (step_store c Kt (hr := fun _ => rfl)) $$ [HA1]; · iexact HA1
  iintro HA1
  iapply (step_else c Kt g3)
  iapply (step_then c Kt g4)
  simp only [Prog.bind_op, Prog.bind_ret]
  unfold E0 E1
  icases HE4 with ⟨Ht1, Ht2, HaS, HaR, HcR⟩
  iapply (step_land T K c _ Kt 4 (pd4 c _) rfl rfl (dst := raR 1) (X := T c 1) rfl (D1) D2 (by decide) (by decide) rfl
    (by show _ ⊢ iprop(own (xn c) (raR 1) (T (xn (xn c)) 1) ∗ anyAt (xn (xn c)) (gA1 (xn (xn c)))); rw [xn_xn]; exact .rfl)) $$ [HA1 HxA HO Ht1 Ht2]
  · isplitr; · iexact HB
    isplitr
    · iapply (marks_at (F := F) (xn c) 12); iexact HmX
    isplitl [HA1]
    · iapply (own_eq c (gT_congr ho (k0_off2_inb i c g2) (in4 c)) hT.symm); iexact HA1
    isplitl [HxA]; · iexact HxA
    isplitl [HO]; · iexact HO
    isplitl [Ht1]; · iexact Ht1
    iexact Ht2
  iintro ⟨HcS, HO⟩
  iapply (step_else c Kt g5)
  iapply (step_else c Kt g6)
  iapply (le_wp_ret _ _)
  iapply Hk
  isplitl [H2]; · iexact H2
  isplitl [H3]; · iexact H3
  isplitl [HA]; · iapply (own_any c accS A); iexact HA
  isplitl [HO]; · iexact HO
  isplitl [Hv]
  · isplitl [Hv]; · iexact Hv
    isplitr; · iexact HmY
    iexact HmX
  isplitl [HxB HyB]
  · isplitl [HxB]; · iexact HxB
    iexact HyB
  isplitl [HB0 HB1]
  · isplitl [HB0]; · iexact HB0
    iexact HB1
  isplitr [HCp]
  · isplitl [HE0]; · iexact HE0
    isplitl [HE1]; · iexact HE1
    isplitl [HE2]; · iexact HE2
    isplitl [HE3]; · iexact HE3
    isplitl [HaS HaR HcR HcS]
    · isplitl [HaS]; · iexact HaS
      isplitl [HaR]; · iexact HaR
      isplitl [HcR]; · iexact HcR
      iexact HcS
    isplitl [HE5]; · iexact HE5
    isplitl [HE6]; · iexact HE6
    iexact HE7
  iexact HCp

end Cert.Talk
-- ==== Proof.Run5.lean ====
module

public import proofs.«01_k».proof.Proof.Run1

/-! The point that ends the third tile: the sum along y of the first column half, and a quarter of it on its way. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (T : Dev nD → Fin 4 → Tile F) (K : GSem nD τ sig → ℕ)

/-! ## The two waits of an exchange -/

variable {sp sp' : Space} {s s' : Shape} {e e' : EltTy}

theorem wait_s (c : Dev nD) (Kt : PUnit → sProp 𝕄) (j : Fin 8) {a : DmaSem sig} (ha : a = sS j)
    {src : Memref sig .tc sp s e} {dst : Memref sig .tc sp' s' e'} {hsrc : src.view.WordExact} {hdst : dst.view.WordExact}
    {k : PUnit → Prog (TpuEff nD τ sig (Elt F) Λ₀ .tc) PUnit} (hN : dst.view.dmaCredit = amt j) (S : Finset (Fin 8)) :
    iprop(base T K c ∗ cred (tallyAt (sC c j) () (amt j)) ∗ owing c S ∗ atPos ER (sC c j) 0 ∅ 0)
      ⊢ iprop(((owing c S ∗ semVal (sC c j) 0 ∗ sendPay T c j)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 a src dst hsrc hdst) k) Kt) := by
  have h := step_wait T K c Kt ⟨j.val, by omega⟩ (by show j.val < 16; omega) ha (hsrc := hsrc) (hdst := hdst) (k := k)
    (hN.trans (amtD_s j).symm) 0 (lv_s c j) S (fun i _ => by omega)
  rw [dPay_s, amtD_s] at h
  exact h

theorem wait_r (c : Dev nD) (Kt : PUnit → sProp 𝕄) (j : Fin 8) {a : DmaSem sig} (ha : a = rS j)
    {src : Memref sig .tc sp s e} {dst : Memref sig .tc sp' s' e'} {hsrc : src.view.WordExact} {hdst : dst.view.WordExact}
    {k : PUnit → Prog (TpuEff nD τ sig (Elt F) Λ₀ .tc) PUnit} (hN : dst.view.dmaCredit = amt j) (S : Finset (Fin 8))
    (hS : ∀ i ∈ S, j.val % 4 < i.val % 4) :
    iprop(base T K c ∗ cred (tallyAt (rC c j) () (amt j)) ∗ owing c S ∗ atPos ER (rC c j) 0 ∅ 0)
      ⊢ iprop(((owing c S ∗ semVal (rC c j) 0 ∗ recvPay T c j)
            -∗ wp frame (wpE (defs₀ (F := F)) 𝒱₀ (c : Thread nD τ) none) Set.univ (k ⟨⟩) Kt)
          -∗ wp frame (wpE (defs₀ (F := F)) 𝒱₀ (c : Thread nD τ) none) Set.univ (.op (.waitDma2 a src dst hsrc hdst) k) Kt) := by
  have h := step_wait T K c Kt ⟨8 + j.val, by omega⟩ (by show 8 + j.val < 16; omega) ha (hsrc := hsrc) (hdst := hdst) (k := k)
    (hN.trans (amtD_r j).symm) (2 + j.val % 4) (lv_r c j) S (fun i hi => by have := hS i hi; omega)
  rw [dPay_r, amtD_r] at h
  exact h

set_option maxRecDepth 65536 in

theorem run_5 (c : Dev nD) (Kt : PUnit → sProp 𝕄) (m₂ : Memref sig .tc .vmem S2048x4096 .bf16) (h₂ : m₂.IsWhole) (m₃ : Memref sig .tc .vmem S1024x2048 .bf16) (h₃ : m₃.IsWhole)
    (X₂ : S2048x4096.Idx → Elt F .bf16) (X₃ : S1024x2048.Idx → Elt F .bf16) (A : S1024x1024.Idx → Elt F .f32)
    (i : grid0.Coords) (g1 : ¬ cond1 i = 1#1) (g2 : k0_cond2 i = 1#1) (g3 : ¬ k0_cond3 i = 1#1) (g4 : ¬ k0_cond4 i = 1#1)
    (g5 : k0_cond5 i = 1#1) (g6 : ¬ k0_cond6 i = 1#1) (ho : k0_off2 i c = k0_off6 c) (hT : T c 2 = tileOf i c X₂ X₃ A) :
    iprop(base T K c ∗ own c m₂ X₂ ∗ own c m₃ X₃ ∗ own c accS A ∗ owing c D2 ∗ S2 c)
      ⊢ iprop(((own c m₂ X₂ ∗ own c m₃ X₃ ∗ anyAt c accS ∗ owing c D3 ∗ S3 T c) -∗ Kt ⟨⟩)
        -∗ wp frame (wpE (defs₀ (F := F)) 𝒱₀ (c : Thread nD τ) none) Set.univ (bodyOn i m₂ h₂ m₃ h₃) Kt) := by
  unfold bodyOn
  simp only [cc0_body_eq_skeleton]
  unfold cc0_body_skel
  simp only [k0_part10_eq_skeleton, k0_part11_eq_skeleton]
  unfold k0_part10_skel k0_part11_skel
  simp only [Prog.lift, Prog.bind_op, Prog.bind_ret, Prog.pure_eq_ret, Prog.bind_assoc, wp_deviceId]
  unfold S2 S3
  iintro ⟨#HB, H2, H3, HA, HO, ⟨⟨Hv, #HmY, #HmX⟩, ⟨HxB, HyB⟩, ⟨HB0, HB1⟩, ⟨HE0, HE1, HE2, HE3, HE4, HE5, HE6, HE7⟩, HCp⟩⟩ Hk
  iapply (step_load_part c Kt) $$ [H2]; · iexact H2
  iintro H2
  iapply (step_load_part c Kt) $$ [H3]; · iexact H3
  iintro H3
  iapply (step_else c Kt g1)
  iapply (step_then c Kt g2)
  simp only [Prog.bind_op, Prog.bind_ret]
  iapply (step_load c Kt (hr := fun _ => rfl)) $$ [HA]; · iexact HA
  iintro HA
  iapply (step_load_any c Kt (hr := fun _ => rfl)) $$ [HB0]
  · iapply (any_eq c (gT_congr ho (k0_off2_inb i c g2) (in6 c)).symm); iexact HB0
  iintro %Z HB0
  iapply (step_store c Kt (hr := fun _ => rfl)) $$ [HB0]; · iexact HB0
  iintro HB0
  ihave HB0 := (own_eq c (gT_congr ho (k0_off2_inb i c g2) (in6 c)) hT.symm) $$ [HB0]; · iexact HB0
  iapply (step_else c Kt g3)
  iapply (step_else c Kt g4)
  iapply (step_then c Kt g5)
  simp only [k0_part1_eq_skeleton]
  unfold k0_part1_skel
  simp only [Prog.lift, Prog.bind_op, Prog.bind_ret, Prog.pure_eq_ret, Prog.bind_assoc]
  unfold E0 E1 E2
  icases HE0 with ⟨HaS, HaR, HcR, HcS⟩
  iapply (wait_s T K c Kt 0 rfl (dst := gT (k0_off5 c) (k0_off5_inb i c g5)) rfl D2) $$ [HcS HO HaS]
  · isplitr; · iexact HB
    isplitl [HcS]; · iexact HcS
    isplitl [HO]; · iexact HO
    iexact HaS
  iintro ⟨HO, HvS, -⟩
  iapply (wait_r T K c Kt 0 rfl (dst := raR 0) rfl D2 (by decide)) $$ [HcR HO HaR]
  · isplitr; · iexact HB
    isplitl [HcR]; · iexact HcR
    isplitl [HO]; · iexact HO
    iexact HaR
  iintro ⟨HO, HvR, Hp⟩
  ihave Hp := (show (recvPay T c 0 : sProp 𝕄) ⊢ iprop(own c (raR 0) (T (yn c) 0) ∗ anyAt (yn c) (gA0 (yn c))) from .rfl) $$ [Hp]; · iexact Hp
  icases Hp with ⟨Hra, HyA⟩
  ihave Hra := (Entails.of_eq (own_unsq c (raU 0) squeezes_S1x1024x1024_S1024x1024 (T (yn c) 0))) $$ [Hra]; · iexact Hra
  iapply (step_load c Kt (hr := fun _ => rfl)) $$ [Hra]; · iexact Hra
  iintro Hra
  iapply (step_load c Kt (hr := fun _ => rfl)) $$ [HB0]; · iexact HB0
  iintro HB0
  iapply (step_load c Kt (hr := fun _ => rfl)) $$ [HB0]; · iexact HB0
  iintro HB0
  iapply (step_store c Kt (hr := fun _ => rfl)) $$ [HB0]; · iapply (own_any c (gB0 c) (T c 2)); iexact HB0
  iintro HB0
  ihave HQ := (b0_cut c (B0 T c)) $$ [HB0]; · iexact HB0
  icases HQ with ⟨HQ, HS⟩
  icases HE1 with ⟨Ht1, Ht2, HaS, HaR, HcR⟩
  iapply (step_land T K c _ Kt 1 (pd5 c _) rfl rfl (dst := rbR 0) (X := half (1 - c.val / 2) (B0 T c)) rfl D2 D3 (by decide) (by decide) rfl
    (by show _ ⊢ iprop(own (xn c) (rbR 0) (half ((xn c).val / 2) (B0 T (xn (xn c)))) ∗ anyAt (xn (xn c)) (gS0 (xn (xn c))))
        rw [xn_xn, show (xn c).val / 2 = 1 - c.val / 2 by clear * -; revert c; decide]; exact .rfl)) $$ [HS HxB HO Ht1 Ht2]
  · isplitr; · iexact HB
    isplitr
    · iapply (marks_at (F := F) (xn c) 9); iexact HmX
    isplitl [HS]; · iexact HS
    isplitl [HxB]; · iexact HxB
    isplitl [HO]; · iexact HO
    isplitl [Ht1]; · iexact Ht1
    iexact Ht2
  iintro ⟨HcS, HO⟩
  iapply (step_else c Kt g6)
  iapply (le_wp_ret _ _)
  iapply Hk
  isplitl [H2]; · iexact H2
  isplitl [H3]; · iexact H3
  isplitl [HA]; · iapply (own_any c accS A); iexact HA
  isplitl [HO]; · iexact HO
  isplitl [Hv]
  · isplitl [Hv]; · iexact Hv
    isplitr; · iexact HmY
    iexact HmX
  isplitl [Hra HyB]
  · isplitl [Hra]
    · iapply (any_sq c (raU 0) squeezes_S1x1024x1024_S1024x1024); iapply (own_any c (raU 0) _); iexact Hra
    iexact HyB
  isplitl [HQ HyA HB1]
  · isplitl [HQ]; · iexact HQ
    isplitl [HyA]; · iexact HyA
    iexact HB1
  isplitr [HCp]
  · isplitl [HvS HvR]
    · isplitl [HvS]; · iexact HvS
      iexact HvR
    isplitl [HaS HaR HcR HcS]
    · isplitl [HaS]; · iexact HaS
      isplitl [HaR]; · iexact HaR
      isplitl [HcR]; · iexact HcR
      iexact HcS
    isplitl [HE2]; · iexact HE2
    isplitl [HE3]; · iexact HE3
    isplitl [HE4]; · iexact HE4
    isplitl [HE5]; · iexact HE5
    isplitl [HE6]; · iexact HE6
    iexact HE7
  iexact HCp

end Cert.Talk
-- ==== Proof.Run7.lean ====
module

public import proofs.«01_k».proof.Proof.Run5

/-! The last point: the sums finished, gathered, and copied to the result. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (T : Dev nD → Fin 4 → Tile F) (K : GSem nD τ sig → ℕ)

/-! ## Regions under the names the program gives them -/

theorem e13 (c : Dev nD) : k0_off13 c = k0_off12 c := by revert c; decide
theorem e15 (c : Dev nD) : k0_off15 c = k0_off14 c := by revert c; decide
theorem e16 (c : Dev nD) : k0_off16 c = k0_off6 c := by revert c; decide
theorem e17 (c : Dev nD) : k0_off17 c = k0_off9 c := by revert c; decide
theorem xn_half (c : Dev nD) : (xn c).val / 2 = 1 - c.val / 2 := by revert c; decide
theorem yn_half (c : Dev nD) : (yn c).val % 2 = 1 - c.val % 2 := by revert c; decide

/-! ## What the copies hand over, by those names -/

theorem pay_c0 (c : Dev nD) (h) : (own (tgt c 2) (gQ (k0_off13 c) h) (Q0 T c) : sProp 𝕄) ⊢ recvPay T (tgt c 2) 2 := by
  show _ ⊢ own (xn c) (gQ0 (xn (xn c))) (Q0 T (xn (xn c)))
  rw [xn_xn]; exact own_eq (xn c) (gQ_congr (e13 c) _ _) rfl
theorem pay_c1 (c : Dev nD) (h) : (own (tgt c 6) (gQ (k0_off15 c) h) (Q1 T c) : sProp 𝕄) ⊢ recvPay T (tgt c 6) 6 := by
  show _ ⊢ own (yn c) (gQ1 (yn (yn c))) (Q1 T (yn (yn c)))
  rw [yn_yn]; exact own_eq (yn c) (gQ_congr (e15 c) _ _) rfl
theorem pay_d0 (c : Dev nD) (h) : (own (tgt c 3) (gT (k0_off16 c) h) ((gB0 c).view.read (Elt F) (G T)) : sProp 𝕄) ⊢ recvPay T (tgt c 3) 3 := by
  show _ ⊢ own (yn c) (gB0 (yn (yn c))) ((gB0 (yn (yn c))).view.read (Elt F) (G T))
  have e := yn_yn c
  refine (own_eq (yn c) (gT_congr (e16 c) _ (in6 c)) rfl).trans ?_
  exact Entails.of_eq (ownT_congr (F := F) (yn c) (show k0_off6 c = k0_off6 (yn (yn c)) by rw [e]) (in6 c) (in6 _) (G T))
theorem pay_d1 (c : Dev nD) (h) : (own (tgt c 7) (gT (k0_off17 c) h) ((gB1 c).view.read (Elt F) (G T)) : sProp 𝕄) ⊢ recvPay T (tgt c 7) 7 := by
  show _ ⊢ own (xn c) (gB1 (xn (xn c))) ((gB1 (xn (xn c))).view.read (Elt F) (G T))
  have e := xn_xn c
  refine (own_eq (xn c) (gT_congr (e17 c) _ (in9 c)) rfl).trans ?_
  exact Entails.of_eq (ownT_congr (F := F) (xn c) (show k0_off9 c = k0_off9 (xn (xn c)) by rw [e]) (in9 c) (in9 _) (G T))

/-! ## The stage -/

/-- A row band of the sum, widened into a stage slot. -/
theorem stage_out (c : Dev nD) (i : Fin 2) (b : Fin 4) (k : ℕ) (h) (hb : k = 512 * b.val) (V : S1x512x2048.Idx → Elt F .f32)
    (hV : V = k0_pay5 (fun j => G T ((rO k h).emb j))) : (own c (stU i) V : sProp 𝕄) ⊢ own c (stR i) (outC T b) := by
  subst hV
  have e : (k0_pay5 (fun j => G T ((rO k h).emb j)) : S1x512x2048.Idx → Elt F .f32)
      = unsq (s := S1x512x2048) squeezes_S1x512x2048_S512x2048.numel_eq (outC T b) := by
    rw [← outC_at T k h b hb]
    funext j
    unfold unsq
    rw [Shape.reshapeEquiv_symm]; rfl
  rw [e]
  exact Entails.of_eq (own_unsq c (stU i) squeezes_S1x512x2048_S512x2048 (outC T b)).symm

theorem close_c (c : Dev nD) (i : Fin 2) :
    iprop(base T K c ∗ atPos ER (cC c i) 2 ∅ 0) ⊢ (iprop(|={Set.univ}=> semVal (cC c i) 0) : sProp 𝕄) := by
  unfold base
  iintro ⟨⟨#Hi, -⟩, Hat⟩
  ihave #H1 := (inv_d T K c ⟨16 + i.val, by omega⟩) $$ Hi
  iapply (Rounds.cell_close ER (rd T) (g := cC c i) (Es := Set.univ) (Set.mem_univ (K (cC c i))) id (R := 2) (duties_later2 T (cC c i)))
  isplitr; · iexact H1
  iexact Hat

set_option maxRecDepth 65536 in

theorem run_7 (c : Dev nD) (Kt : PUnit → sProp 𝕄) (m₂ : Memref sig .tc .vmem S2048x4096 .bf16) (h₂ : m₂.IsWhole) (m₃ : Memref sig .tc .vmem S1024x2048 .bf16) (h₃ : m₃.IsWhole)
    (X₂ : S2048x4096.Idx → Elt F .bf16) (X₃ : S1024x2048.Idx → Elt F .bf16) (A : S1024x1024.Idx → Elt F .f32)
    (i : grid0.Coords) (g1 : ¬ cond1 i = 1#1) (g2 : k0_cond2 i = 1#1) (g3 : ¬ k0_cond3 i = 1#1) (g4 : ¬ k0_cond4 i = 1#1)
    (g5 : ¬ k0_cond5 i = 1#1) (g6 : k0_cond6 i = 1#1) (ho : k0_off2 i c = k0_off9 c) (hT : T c 3 = tileOf i c X₂ X₃ A) :
    iprop(base T K c ∗ own c m₂ X₂ ∗ own c m₃ X₃ ∗ own c accS A ∗ owing c D3 ∗ S3 T c)
      ⊢ iprop(((own c m₂ X₂ ∗ own c m₃ X₃ ∗ anyAt c accS ∗ owing c ∅ ∗ S4 T c) -∗ Kt ⟨⟩)
        -∗ wp frame (wpE (defs₀ (F := F)) 𝒱₀ (c : Thread nD τ) none) Set.univ (bodyOn i m₂ h₂ m₃ h₃) Kt) := by
  unfold bodyOn
  simp only [cc0_body_eq_skeleton]
  unfold cc0_body_skel
  simp only [k0_part10_eq_skeleton, k0_part11_eq_skeleton]
  unfold k0_part10_skel k0_part11_skel
  simp only [Prog.lift, Prog.bind_op, Prog.bind_ret, Prog.pure_eq_ret, Prog.bind_assoc, wp_deviceId]
  unfold S3 S4
  iintro ⟨#HB, H2, H3, HA, HO, ⟨⟨Hv, #HmY, #HmX⟩, ⟨Hra0, HyB⟩, ⟨HQ0, HyA, HB1⟩, ⟨HE0, HE1, HE2, HE3, HE4, HE5, HE6, HE7⟩, HCp⟩⟩ Hk
  iapply (step_load_part c Kt) $$ [H2]; · iexact H2
  iintro H2
  iapply (step_load_part c Kt) $$ [H3]; · iexact H3
  iintro H3
  iapply (step_else c Kt g1)
  iapply (step_then c Kt g2)
  simp only [Prog.bind_op, Prog.bind_ret]
  iapply (step_load c Kt (hr := fun _ => rfl)) $$ [HA]; · iexact HA
  iintro HA
  iapply (step_load_any c Kt (hr := fun _ => rfl)) $$ [HB1]
  · iapply (any_eq c (gT_congr ho (k0_off2_inb i c g2) (in9 c)).symm); iexact HB1
  iintro %Z HB1
  iapply (step_store c Kt (hr := fun _ => rfl)) $$ [HB1]; · iexact HB1
  iintro HB1
  ihave HB1 := (own_eq c (gT_congr ho (k0_off2_inb i c g2) (in9 c)) hT.symm) $$ [HB1]; · iexact HB1
  iapply (step_else c Kt g3)
  iapply (step_else c Kt g4)
  iapply (step_else c Kt g5)
  iapply (step_then c Kt g6)
  unfold E0 E1 E2
  simp only [k0_part2_eq_skeleton]
  unfold k0_part2_skel
  simp only [Prog.lift, Prog.bind_op, Prog.bind_ret, Prog.pure_eq_ret, Prog.bind_assoc]
  icases HE4 with ⟨HaS4, HaR4, HcR4, HcS4⟩
  iapply (wait_s T K c Kt 4 rfl (dst := gT (k0_off8 c) (k0_off8_inb i c g6)) rfl D3) $$ [HcS4 HO HaS4]
  · isplitr; · iexact HB
    isplitl [HcS4]; · iexact HcS4
    isplitl [HO]; · iexact HO
    iexact HaS4
  iintro ⟨HO, HvS4, -⟩
  iapply (wait_r T K c Kt 4 rfl (dst := raR 1) rfl D3 (by decide)) $$ [HcR4 HO HaR4]
  · isplitr; · iexact HB
    isplitl [HcR4]; · iexact HcR4
    isplitl [HO]; · iexact HO
    iexact HaR4
  iintro ⟨HO, HvR4, Hp⟩
  ihave Hp := (show (recvPay T c 4 : sProp 𝕄) ⊢ iprop(own c (raR 1) (T (xn c) 1) ∗ anyAt (xn c) (gA1 (xn c))) from .rfl) $$ [Hp]; · iexact Hp
  icases Hp with ⟨Hra1, HxA⟩
  ihave Hra1 := (Entails.of_eq (own_unsq c (raU 1) squeezes_S1x1024x1024_S1024x1024 (T (xn c) 1))) $$ [Hra1]; · iexact Hra1
  iapply (step_load c Kt (hr := fun _ => rfl)) $$ [Hra1]; · iexact Hra1
  iintro Hra1
  iapply (step_load c Kt (hr := fun _ => rfl)) $$ [HB1]; · iexact HB1
  iintro HB1
  iapply (step_load c Kt (hr := fun _ => rfl)) $$ [HB1]; · iexact HB1
  iintro HB1
  iapply (step_store c Kt (hr := fun _ => rfl)) $$ [HB1]; · iapply (own_any c (gB1 c) (T c 3)); iexact HB1
  iintro HB1
  ihave HB1 := (show (own c (gB1 c) _ : sProp 𝕄) ⊢ own c (gB1 c) (B1 T c) from .rfl) $$ [HB1]; · iexact HB1
  ihave HQ := (b1_cut c (B1 T c)) $$ [HB1]; · iexact HB1
  icases HQ with ⟨HQ1, HS⟩
  simp only [k0_part3_eq_skeleton]
  unfold k0_part3_skel
  simp only [Prog.lift, Prog.bind_op, Prog.bind_ret, Prog.pure_eq_ret, Prog.bind_assoc]
  icases HE5 with ⟨Ht1, Ht2, HaS5, HaR5, HcR5⟩
  iapply (step_land T K c _ Kt 5 (pd6 c _) rfl rfl (dst := rbR 1) (X := half (1 - c.val % 2) (B1 T c)) rfl D3 D4 (by decide) (by decide) rfl
    (by show _ ⊢ iprop(own (yn c) (rbR 1) (half ((yn c).val % 2) (B1 T (yn (yn c)))) ∗ anyAt (yn (yn c)) (gS1 (yn (yn c))))
        rw [yn_yn, yn_half]; exact .rfl)) $$ [HS HyB HO Ht1 Ht2]
  · isplitr; · iexact HB
    isplitr
    · iapply (marks_at (F := F) (yn c) 13); iexact HmY
    isplitl [HS]; · iexact HS
    isplitl [HyB]; · iexact HyB
    isplitl [HO]; · iexact HO
    isplitl [Ht1]; · iexact Ht1
    iexact Ht2
  iintro ⟨HcS5, HO⟩
  icases HE1 with ⟨HaS1, HaR1, HcR1, HcS1⟩
  iapply (wait_s T K c Kt 1 rfl (dst := gQ (k0_off11 c) (k0_off11_inb i c g6)) rfl D4) $$ [HcS1 HO HaS1]
  · isplitr; · iexact HB
    isplitl [HcS1]; · iexact HcS1
    isplitl [HO]; · iexact HO
    iexact HaS1
  iintro ⟨HO, HvS1, -⟩
  simp only [k0_part4_eq_skeleton]
  unfold k0_part4_skel
  simp only [Prog.lift, Prog.bind_op, Prog.bind_ret, Prog.pure_eq_ret, Prog.bind_assoc]
  iapply (wait_r T K c Kt 1 rfl (dst := rbR 0) rfl D4 (by decide)) $$ [HcR1 HO HaR1]
  · isplitr; · iexact HB
    isplitl [HcR1]; · iexact HcR1
    isplitl [HO]; · iexact HO
    iexact HaR1
  iintro ⟨HO, HvR1, Hp⟩
  ihave Hp := (show (recvPay T c 1 : sProp 𝕄) ⊢ iprop(own c (rbR 0) (half (c.val / 2) (B0 T (xn c))) ∗ anyAt (xn c) (gS0 (xn c))) from .rfl) $$ [Hp]; · iexact Hp
  icases Hp with ⟨Hrb0, HxS⟩
  ihave Hrb0 := (Entails.of_eq (own_unsq c (rbU 0) squeezes_S1x512x1024_S512x1024 (half (c.val / 2) (B0 T (xn c))))) $$ [Hrb0]; · iexact Hrb0
  iapply (step_load c Kt (hr := fun _ => rfl)) $$ [Hrb0]; · iexact Hrb0
  iintro Hrb0
  iapply (step_load c Kt (hr := fun _ => rfl)) $$ [HQ0]; · iexact HQ0
  iintro HQ0
  iapply (step_load c Kt (hr := fun _ => rfl)) $$ [HQ0]; · iexact HQ0
  iintro HQ0
  iapply (step_store c Kt (hr := fun _ => rfl)) $$ [HQ0]; · iapply (own_any c (gQ0 c) (half (c.val / 2) (B0 T c))); iexact HQ0
  iintro HQ0
  ihave HQ0 := (show (own c (gQ0 c) _ : sProp 𝕄) ⊢ own c (gQ0 c) (Q0 T c) from .rfl) $$ [HQ0]; · iexact HQ0
  icases HE2 with ⟨Ht1, Ht2, HaS2, HaR2, HcR2⟩
  iapply (step_keep T K c _ Kt 2 (pd7 c _) rfl rfl (src := gQ (k0_off13 c) (k0_off13_inb i c g6)) (dst := gQ (k0_off13 c) (k0_off13_inb i c g6)) (X := Q0 T c) rfl D4 D5 (by decide) (by decide) (own_eq c (gQ_congr (e13 c) _ _) rfl) (pay_c0 T c _)) $$ [HQ0 HxS HO Ht1 Ht2]
  · isplitr; · iexact HB
    isplitr
    · iapply (marks_at (F := F) (xn c) 10); iexact HmX
    isplitl [HQ0]; · iapply (own_eq c (gQ_congr (e13 c) (k0_off13_inb i c g6) (in12 c)).symm rfl); iexact HQ0
    isplitl [HxS]; · iapply (any_eq (xn c) ((gS0_xn c).trans (gQ_congr (e13 c) (k0_off13_inb i c g6) (in12 c)).symm)); iexact HxS
    isplitl [HO]; · iexact HO
    isplitl [Ht1]; · iexact Ht1
    iexact Ht2
  iintro ⟨HcS2, HO⟩
  iapply (wait_s T K c Kt 5 rfl (dst := gQ (k0_off10 c) (k0_off10_inb i c g6)) rfl D5) $$ [HcS5 HO HaS5]
  · isplitr; · iexact HB
    isplitl [HcS5]; · iexact HcS5
    isplitl [HO]; · iexact HO
    iexact HaS5
  iintro ⟨HO, HvS5, -⟩
  simp only [k0_part5_eq_skeleton]
  unfold k0_part5_skel
  simp only [Prog.lift, Prog.bind_op, Prog.bind_ret, Prog.pure_eq_ret, Prog.bind_assoc]
  iapply (wait_r T K c Kt 5 rfl (dst := rbR 1) rfl D5 (by decide)) $$ [HcR5 HO HaR5]
  · isplitr; · iexact HB
    isplitl [HcR5]; · iexact HcR5
    isplitl [HO]; · iexact HO
    iexact HaR5
  iintro ⟨HO, HvR5, Hp⟩
  ihave Hp := (show (recvPay T c 5 : sProp 𝕄) ⊢ iprop(own c (rbR 1) (half (c.val % 2) (B1 T (yn c))) ∗ anyAt (yn c) (gS1 (yn c))) from .rfl) $$ [Hp]; · iexact Hp
  icases Hp with ⟨Hrb1, HyS⟩
  ihave Hrb1 := (Entails.of_eq (own_unsq c (rbU 1) squeezes_S1x512x1024_S512x1024 (half (c.val % 2) (B1 T (yn c))))) $$ [Hrb1]; · iexact Hrb1
  iapply (step_load c Kt (hr := fun _ => rfl)) $$ [Hrb1]; · iexact Hrb1
  iintro Hrb1
  iapply (step_load c Kt (hr := fun _ => rfl)) $$ [HQ1]; · iexact HQ1
  iintro HQ1
  iapply (step_load c Kt (hr := fun _ => rfl)) $$ [HQ1]; · iexact HQ1
  iintro HQ1
  iapply (step_store c Kt (hr := fun _ => rfl)) $$ [HQ1]; · iapply (own_any c (gQ1 c) (half (c.val % 2) (B1 T c))); iexact HQ1
  iintro HQ1
  ihave HQ1 := (show (own c (gQ1 c) _ : sProp 𝕄) ⊢ own c (gQ1 c) (Q1 T c) from .rfl) $$ [HQ1]; · iexact HQ1
  icases HE6 with ⟨Ht1, Ht2, HaS6, HaR6, HcR6⟩
  iapply (step_keep T K c _ Kt 6 (pd8 c _) rfl rfl (src := gQ (k0_off15 c) (k0_off15_inb i c g6)) (dst := gQ (k0_off15 c) (k0_off15_inb i c g6)) (X := Q1 T c) rfl D5 D6 (by decide) (by decide) (own_eq c (gQ_congr (e15 c) _ _) rfl) (pay_c1 T c _)) $$ [HQ1 HyS HO Ht1 Ht2]
  · isplitr; · iexact HB
    isplitr
    · iapply (marks_at (F := F) (yn c) 14); iexact HmY
    isplitl [HQ1]; · iapply (own_eq c (gQ_congr (e15 c) (k0_off15_inb i c g6) (in14 c)).symm rfl); iexact HQ1
    isplitl [HyS]; · iapply (any_eq (yn c) ((gS1_yn c).trans (gQ_congr (e15 c) (k0_off15_inb i c g6) (in14 c)).symm)); iexact HyS
    isplitl [HO]; · iexact HO
    isplitl [Ht1]; · iexact Ht1
    iexact Ht2
  iintro ⟨HcS6, HO⟩
  simp only [k0_part6_eq_skeleton]
  unfold k0_part6_skel
  simp only [Prog.lift, Prog.bind_op, Prog.bind_ret, Prog.pure_eq_ret, Prog.bind_assoc]
  iapply (wait_s T K c Kt 2 rfl (dst := gQ (k0_off13 c) (k0_off13_inb i c g6)) rfl D6) $$ [HcS2 HO HaS2]
  · isplitr; · iexact HB
    isplitl [HcS2]; · iexact HcS2
    isplitl [HO]; · iexact HO
    iexact HaS2
  iintro ⟨HO, HvS2, HQ0⟩
  iapply (wait_r T K c Kt 2 rfl (dst := gQ (k0_off13 c) (k0_off13_inb i c g6)) rfl D6 (by decide)) $$ [HcR2 HO HaR2]
  · isplitr; · iexact HB
    isplitl [HcR2]; · iexact HcR2
    isplitl [HO]; · iexact HO
    iexact HaR2
  iintro ⟨HO, HvR2, Hp⟩
  ihave Hp := (show (recvPay T c 2 : sProp 𝕄) ⊢ own c (gQ0 (xn c)) (Q0 T (xn c)) from .rfl) $$ [Hp]; · iexact Hp
  icases Hp with Hp
  ihave HB0 := (b0_glue T c) $$ [HQ0 Hp]
  · isplitl [HQ0]; · iapply (show (sendPay T c 2 : sProp 𝕄) ⊢ own c (gQ0 c) (Q0 T c) from .rfl); iexact HQ0
    iexact Hp
  icases HE3 with ⟨Ht1, Ht2, HaS3, HaR3, HcR3⟩
  iapply (step_keep T K c _ Kt 3 (pd9 c _) rfl rfl (src := gT (k0_off16 c) (k0_off16_inb i c g6)) (dst := gT (k0_off16 c) (k0_off16_inb i c g6)) (X := (gB0 c).view.read (Elt F) (G T)) rfl D6 D7 (by decide) (by decide) (own_eq c (gT_congr (e16 c) _ _) rfl) (pay_d0 T c _)) $$ [HB0 HyA HO Ht1 Ht2]
  · isplitr; · iexact HB
    isplitr
    · iapply (marks_at (F := F) (yn c) 11); iexact HmY
    isplitl [HB0]; · iapply (own_eq c (gT_congr (e16 c) (k0_off16_inb i c g6) (in6 c)).symm rfl); iexact HB0
    isplitl [HyA]; · iapply (any_eq (yn c) ((gA0_yn c).trans (gT_congr (e16 c) (k0_off16_inb i c g6) (in6 c)).symm)); iexact HyA
    isplitl [HO]; · iexact HO
    isplitl [Ht1]; · iexact Ht1
    iexact Ht2
  iintro ⟨HcS3, HO⟩
  iapply (wait_s T K c Kt 6 rfl (dst := gQ (k0_off15 c) (k0_off15_inb i c g6)) rfl D7) $$ [HcS6 HO HaS6]
  · isplitr; · iexact HB
    isplitl [HcS6]; · iexact HcS6
    isplitl [HO]; · iexact HO
    iexact HaS6
  iintro ⟨HO, HvS6, HQ1⟩
  simp only [k0_part7_eq_skeleton]
  unfold k0_part7_skel
  simp only [Prog.lift, Prog.bind_op, Prog.bind_ret, Prog.pure_eq_ret, Prog.bind_assoc]
  iapply (wait_r T K c Kt 6 rfl (dst := gQ (k0_off15 c) (k0_off15_inb i c g6)) rfl D7 (by decide)) $$ [HcR6 HO HaR6]
  · isplitr; · iexact HB
    isplitl [HcR6]; · iexact HcR6
    isplitl [HO]; · iexact HO
    iexact HaR6
  iintro ⟨HO, HvR6, Hp⟩
  ihave Hp := (show (recvPay T c 6 : sProp 𝕄) ⊢ own c (gQ1 (yn c)) (Q1 T (yn c)) from .rfl) $$ [Hp]; · iexact Hp
  icases Hp with Hp
  ihave HB1 := (b1_glue T c) $$ [HQ1 Hp]
  · isplitl [HQ1]; · iapply (show (sendPay T c 6 : sProp 𝕄) ⊢ own c (gQ1 c) (Q1 T c) from .rfl); iexact HQ1
    iexact Hp
  icases HE7 with ⟨Ht1, Ht2, HaS7, HaR7, HcR7⟩
  iapply (step_keep T K c _ Kt 7 (pd10 c _) rfl rfl (src := gT (k0_off17 c) (k0_off17_inb i c g6)) (dst := gT (k0_off17 c) (k0_off17_inb i c g6)) (X := (gB1 c).view.read (Elt F) (G T)) rfl D7 ∅ (by decide) (by decide) (own_eq c (gT_congr (e17 c) _ _) rfl) (pay_d1 T c _)) $$ [HB1 HxA HO Ht1 Ht2]
  · isplitr; · iexact HB
    isplitr
    · iapply (marks_at (F := F) (xn c) 15); iexact HmX
    isplitl [HB1]; · iapply (own_eq c (gT_congr (e17 c) (k0_off17_inb i c g6) (in9 c)).symm rfl); iexact HB1
    isplitl [HxA]; · iapply (any_eq (xn c) ((gA1_xn c).trans (gT_congr (e17 c) (k0_off17_inb i c g6) (in9 c)).symm)); iexact HxA
    isplitl [HO]; · iexact HO
    isplitl [Ht1]; · iexact Ht1
    iexact Ht2
  iintro ⟨HcS7, HO⟩
  iapply (wait_s T K c Kt 3 rfl (dst := gT (k0_off16 c) (k0_off16_inb i c g6)) rfl ∅) $$ [HcS3 HO HaS3]
  · isplitr; · iexact HB
    isplitl [HcS3]; · iexact HcS3
    isplitl [HO]; · iexact HO
    iexact HaS3
  iintro ⟨HO, HvS3, HB0⟩
  iapply (wait_r T K c Kt 3 rfl (dst := gT (k0_off16 c) (k0_off16_inb i c g6)) rfl ∅ (by decide)) $$ [HcR3 HO HaR3]
  · isplitr; · iexact HB
    isplitl [HcR3]; · iexact HcR3
    isplitl [HO]; · iexact HO
    iexact HaR3
  iintro ⟨HO, HvR3, Hp⟩
  ihave Hp := (show (recvPay T c 3 : sProp 𝕄) ⊢ own c (gB0 (yn c)) ((gB0 (yn c)).view.read (Elt F) (G T)) from .rfl) $$ [Hp]; · iexact Hp
  icases Hp with HG0
  simp only [k0_part8_eq_skeleton]
  unfold k0_part8_skel
  simp only [Prog.lift, Prog.bind_op, Prog.bind_ret, Prog.pure_eq_ret, Prog.bind_assoc]
  iapply (wait_s T K c Kt 7 rfl (dst := gT (k0_off17 c) (k0_off17_inb i c g6)) rfl ∅) $$ [HcS7 HO HaS7]
  · isplitr; · iexact HB
    isplitl [HcS7]; · iexact HcS7
    isplitl [HO]; · iexact HO
    iexact HaS7
  iintro ⟨HO, HvS7, HB1⟩
  iapply (wait_r T K c Kt 7 rfl (dst := gT (k0_off17 c) (k0_off17_inb i c g6)) rfl ∅ (by decide)) $$ [HcR7 HO HaR7]
  · isplitr; · iexact HB
    isplitl [HcR7]; · iexact HcR7
    isplitl [HO]; · iexact HO
    iexact HaR7
  iintro ⟨HO, HvR7, Hp⟩
  ihave Hp := (show (recvPay T c 7 : sProp 𝕄) ⊢ own c (gB1 (xn c)) ((gB1 (xn c)).view.read (Elt F) (G T)) from .rfl) $$ [Hp]; · iexact Hp
  icases Hp with HG1
  ihave HG := (g_done T c) $$ [HB0 HG0 HB1 HG1]
  · isplitl [HB0]; · iapply (show (sendPay T c 3 : sProp 𝕄) ⊢ own c (gB0 c) ((gB0 c).view.read (Elt F) (G T)) from .rfl); iexact HB0
    isplitl [HG0]; · iexact HG0
    isplitl [HB1]; · iapply (show (sendPay T c 7 : sProp 𝕄) ⊢ own c (gB1 c) ((gB1 c).view.read (Elt F) (G T)) from .rfl); iexact HB1
    iexact HG1
  unfold Cp
  icases HCp with ⟨⟨Hc0, Hc1⟩, ⟨Ht00, Ht01, Ht10, Ht11⟩, ⟨Hst0, Hst1⟩, Ho0, Ho1, Ho2, Ho3⟩
  ihave #Hm := (show (base T K c : sProp 𝕄) ⊢ marks c by unfold base; iintro ⟨-, -, -, #H⟩; iexact H) $$ HB
  ihave #Hr0 := (marks_at (F := F) c 16) $$ Hm
  ihave #Hr1 := (marks_at (F := F) c 17) $$ Hm
  iapply (step_load_part c Kt) $$ [HG]; · iexact HG
  iintro HG
  iapply (step_load_any c Kt (hr := fun _ => rfl)) $$ [Hst0]; · iexact Hst0
  iintro %Y0 Hst0
  iapply (step_store c Kt (hr := fun _ => rfl)) $$ [Hst0]; · iexact Hst0
  iintro Hst0
  ihave Hst0 := (stage_out T c 0 0 0 inb_S2048x2048_S512x2048_0_0 rfl _ rfl) $$ [Hst0]; · iexact Hst0
  iapply (step_copy T K c Kt 0 0 0 rfl rfl rfl rfl (duties_d T c 16) (dPay_c00 T c)) $$ [Hst0 Ho0 Ht00]
  · isplitr; · iexact HB
    isplitl [Hst0]; · iexact Hst0
    isplitl [Ho0]; · iexact Ho0
    isplitl [Ht00]; · iexact Ht00
    iexact Hr0
  iintro Hcr0
  iapply (step_load_part c Kt) $$ [HG]; · iexact HG
  iintro HG
  simp only [k0_part9_eq_skeleton]
  unfold k0_part9_skel
  simp only [Prog.lift, Prog.bind_op, Prog.bind_ret, Prog.pure_eq_ret, Prog.bind_assoc]
  iapply (step_load_any c Kt (hr := fun _ => rfl)) $$ [Hst1]; · iexact Hst1
  iintro %Y1 Hst1
  iapply (step_store c Kt (hr := fun _ => rfl)) $$ [Hst1]; · iexact Hst1
  iintro Hst1
  ihave Hst1 := (stage_out T c 1 1 512 inb_S2048x2048_S512x2048_512_0 rfl _ rfl) $$ [Hst1]; · iexact Hst1
  iapply (step_copy T K c Kt 1 0 1 rfl rfl rfl rfl (duties_d T c 17) (dPay_c10 T c)) $$ [Hst1 Ho1 Ht10]
  · isplitr; · iexact HB
    isplitl [Hst1]; · iexact Hst1
    isplitl [Ho1]; · iexact Ho1
    isplitl [Ht10]; · iexact Ht10
    iexact Hr1
  iintro Hcr1
  iapply (step_copied T K c Kt 0 0 0 rfl (dst := outR 0) rfl ((expect_d T c 16).trans (amtD_c 0)) (duties_d T c 16) (dPay_c00 T c)) $$ [Hcr0 HO Hc0]
  · isplitr; · iexact HB
    isplitl [Hcr0]; · iexact Hcr0
    isplitl [HO]; · iexact HO
    iexact Hc0
  unfold copyPay
  iintro ⟨HO, Hc0, #Hr0, Ho0, Hst0⟩
  ihave Hst0 := (any_unsq c (stU 0) squeezes_S1x512x2048_S512x2048) $$ [Hst0]; · iexact Hst0
  iapply (step_load_part c Kt) $$ [HG]; · iexact HG
  iintro HG
  iapply (step_load_any c Kt (hr := fun _ => rfl)) $$ [Hst0]; · iexact Hst0
  iintro %Y2 Hst0
  iapply (step_store c Kt (hr := fun _ => rfl)) $$ [Hst0]; · iexact Hst0
  iintro Hst0
  ihave Hst0 := (stage_out T c 0 2 1024 inb_S2048x2048_S512x2048_1024_0 rfl _ rfl) $$ [Hst0]; · iexact Hst0
  iapply (step_copy T K c Kt 0 1 2 rfl rfl rfl rfl (duties_c1 T c 0) (dPay_c01 T c)) $$ [Hst0 Ho2 Ht01]
  · isplitr; · iexact HB
    isplitl [Hst0]; · iexact Hst0
    isplitl [Ho2]; · iexact Ho2
    isplitl [Ht01]; · iexact Ht01
    iexact Hr0
  iintro Hcr0
  iapply (step_copied T K c Kt 1 0 1 rfl (dst := outR 1) rfl ((expect_d T c 17).trans (amtD_c 1)) (duties_d T c 17) (dPay_c10 T c)) $$ [Hcr1 HO Hc1]
  · isplitr; · iexact HB
    isplitl [Hcr1]; · iexact Hcr1
    isplitl [HO]; · iexact HO
    iexact Hc1
  unfold copyPay
  iintro ⟨HO, Hc1, #Hr1, Ho1, Hst1⟩
  ihave Hst1 := (any_unsq c (stU 1) squeezes_S1x512x2048_S512x2048) $$ [Hst1]; · iexact Hst1
  iapply (step_load_part c Kt) $$ [HG]; · iexact HG
  iintro HG
  iapply (step_load_any c Kt (hr := fun _ => rfl)) $$ [Hst1]; · iexact Hst1
  iintro %Y3 Hst1
  iapply (step_store c Kt (hr := fun _ => rfl)) $$ [Hst1]; · iexact Hst1
  iintro Hst1
  ihave Hst1 := (stage_out T c 1 3 1536 inb_S2048x2048_S512x2048_1536_0 rfl _ rfl) $$ [Hst1]; · iexact Hst1
  iapply (step_copy T K c Kt 1 1 3 rfl rfl rfl rfl (duties_c1 T c 1) (dPay_c11 T c)) $$ [Hst1 Ho3 Ht11]
  · isplitr; · iexact HB
    isplitl [Hst1]; · iexact Hst1
    isplitl [Ho3]; · iexact Ho3
    isplitl [Ht11]; · iexact Ht11
    iexact Hr1
  iintro Hcr1
  iapply (step_copied T K c Kt 0 1 2 rfl (dst := outR 2) rfl (expect_c1 T c 0) (duties_c1 T c 0) (dPay_c01 T c)) $$ [Hcr0 HO Hc0]
  · isplitr; · iexact HB
    isplitl [Hcr0]; · iexact Hcr0
    isplitl [HO]; · iexact HO
    iexact Hc0
  unfold copyPay
  iintro ⟨HO, Hc0, #Hr0, Ho2, Hst0⟩
  iapply (step_copied T K c Kt 1 1 3 rfl (dst := outR 3) rfl (expect_c1 T c 1) (duties_c1 T c 1) (dPay_c11 T c)) $$ [Hcr1 HO Hc1]
  · isplitr; · iexact HB
    isplitl [Hcr1]; · iexact Hcr1
    isplitl [HO]; · iexact HO
    iexact Hc1
  unfold copyPay
  iintro ⟨HO, Hc1, #Hr1, Ho3, Hst1⟩
  imod (close_c T K c 0) $$ [Hc0] with Hv0
  · isplitr; · iexact HB
    iexact Hc0
  imod (close_c T K c 1) $$ [Hc1] with Hv1
  · isplitr; · iexact HB
    iexact Hc1
  iapply (le_wp_ret _ _)
  iapply Hk
  isplitl [H2]; · iexact H2
  isplitl [H3]; · iexact H3
  isplitl [HA]; · iapply (own_any c accS A); iexact HA
  isplitl [HO]; · iexact HO
  isplitl [Hv]; · iexact Hv
  isplitl [Hra0 Hra1 Hrb0 Hrb1]
  · isplitl [Hra0]; · iexact Hra0
    isplitl [Hra1]; · iapply (any_sq c (raU 1) squeezes_S1x1024x1024_S1024x1024); iapply (own_any c (raU 1) _); iexact Hra1
    isplitl [Hrb0]; · iapply (any_sq c (rbU 0) squeezes_S1x512x1024_S512x1024); iapply (own_any c (rbU 0) _); iexact Hrb0
    iapply (any_sq c (rbU 1) squeezes_S1x512x1024_S512x1024); iapply (own_any c (rbU 1) _); iexact Hrb1
  isplitl [HG Hst0 Hst1 Ho0 Ho1 Ho2 Ho3]
  · isplitl [HG]; · iexact HG
    isplitl [Hst0]; · iexact Hst0
    isplitl [Hst1]; · iexact Hst1
    iapply (out_glue T c)
    isplitl [Ho0]; · iexact Ho0
    isplitl [Ho1]; · iexact Ho1
    isplitl [Ho2]; · iexact Ho2
    iexact Ho3
  isplitr [Hv0 Hv1]
  · isplitl [HE0]; · iexact HE0
    isplitl [HvS1 HvR1]
    · isplitl [HvS1]; · iexact HvS1
      iexact HvR1
    isplitl [HvS2 HvR2]
    · isplitl [HvS2]; · iexact HvS2
      iexact HvR2
    isplitl [HvS3 HvR3]
    · isplitl [HvS3]; · iexact HvS3
      iexact HvR3
    isplitl [HvS4 HvR4]
    · isplitl [HvS4]; · iexact HvS4
      iexact HvR4
    isplitl [HvS5 HvR5]
    · isplitl [HvS5]; · iexact HvS5
      iexact HvR5
    isplitl [HvS6 HvR6]
    · isplitl [HvS6]; · iexact HvS6
      iexact HvR6
    isplitl [HvS7]; · iexact HvS7
    iexact HvR7
  isplitl [Hv0]; · iexact Hv0
  iexact Hv1

end Cert.Talk
-- ==== Proof.Body.lean ====
module

public import proofs.«01_k».proof.Proof.Run7
public import proofs.«01_k».proof.Proof.Gen.KernelIdeal.Launch
public import Idealize.ShloMosaic.Lib.Pipeline.FrameBody

/-! The pipeline's proof data, and its body at every grid point. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

-- What each device holds in its unscoped buffers as the kernel starts.
variable (V : Dev nD → Valuation τ sig (Elt F))

/-! ## The operands' blocks, the partial products and the tiles -/

/-- The left operand, whole, and the right operand's block of a point. -/
def blk0 (c : Dev nD) (t : Fin cfg0.N) : S2048x4096.Idx → Elt F .bf16 := (win0_0.blk t).view.read (Elt F) (V c main_v15)
def blk1 (c : Dev nD) (t : Fin cfg0.N) : S1024x2048.Idx → Elt F .bf16 := (win0_1.blk t).view.read (Elt F) (V c main_v16)
/-- The product over the first half of the contraction, and the tile two points make. -/
def accAt (c : Dev nD) (t : Fin cfg0.N) : S1024x1024.Idx → Elt F .f32 := accOf (grid0.coords t) c (blk0 V c t) (blk1 V c t)
def tileAt (c : Dev nD) (t t' : Fin cfg0.N) : Tile F := tileOf (grid0.coords t') c (blk0 V c t') (blk1 V c t') (accAt V c t)
def TT (c : Dev nD) : Fin 4 → Tile F
  | 0 => tileAt V c t0_0 t0_1
  | 1 => tileAt V c t0_2 t0_3
  | 2 => tileAt V c t0_4 t0_5
  | 3 => tileAt V c t0_6 t0_7

/-! ## Between the points -/

def PhiS (c : Dev nD) (n : ℕ) : sProp 𝕄 :=
  match n with
  | 0 => iprop(anyAt c accS ∗ S0 c)
  | 1 => iprop(own c accS (accAt V c t0_0) ∗ S0 c)
  | 2 => iprop(anyAt c accS ∗ S1 c)
  | 3 => iprop(own c accS (accAt V c t0_2) ∗ S1 c)
  | 4 => iprop(anyAt c accS ∗ S2 c)
  | 5 => iprop(own c accS (accAt V c t0_4) ∗ S2 c)
  | 6 => iprop(anyAt c accS ∗ S3 (TT V) c)
  | 7 => iprop(own c accS (accAt V c t0_6) ∗ S3 (TT V) c)
  | _ => iprop(anyAt c accS ∗ S4 (TT V) c)
def ow (c : Dev nD) (n : ℕ) : CellTallies nD τ sig Unit :=
  match n with
  | 0 | 1 => O₀ c
  | 2 | 3 => oweR c D1
  | 4 | 5 => oweR c D2
  | 6 | 7 => oweR c D3
  | _ => oweR c ∅

def dat0 (c : Dev nD) : Pipeline.Dat τ (Elt F) Unit ℕ UU ℕ cfg0 c where
  A w := V c (Pipeline.arrRef spec0 w)
  after w t := match w with
    | 0 => blk0 V c t
    | 1 => blk1 V c t
    | ⟨_ + 2, h⟩ => absurd h (Nat.not_lt.2 (Nat.le_add_left _ _))
  Φ t := iprop((∃ K, base (TT V) K c) ∗ (∃ r, prngReg c r) ∗ PhiS V c t.val)
  q _ := fullShare
  owed t := ow c t.val

theorem before0 (c : Dev nD) (t : Fin cfg0.N) (d) : (dat0 V c).before 0 t d = blk0 V c t :=
  (Pipeline.Dat.before_in_eq_fetched (dat0 V c) 0 rfl (fun _ => rfl) (fun _ _ _ => rfl) (fun _ => rfl) t d).trans rfl
theorem before1 (c : Dev nD) (t : Fin cfg0.N) (d) : (dat0 V c).before 1 t d = blk1 V c t :=
  (Pipeline.Dat.before_in_eq_fetched (dat0 V c) 1 rfl (fun _ => rfl) (fun _ _ _ => rfl) (fun _ => rfl) t d).trans rfl

theorem owesAt_of (c : Dev nD) (t : Fin (cfg0.N + 1)) (n : ℕ) (h : t.val = n) :
    (iprop(∃ W, owes (c : Thread nD τ) (ow c n) W) : sProp 𝕄) ⊢ (dat0 V c).owesAt () t := by
  subst h
  unfold Dat.owesAt Pipeline.owesWithin Dat.bound
  iintro ⟨%W, HO⟩; iexists W; isplitr; · ipureintro; exact fun _ _ => Or.inl trivial
  iexact HO
theorem owesAt_to (c : Dev nD) (t : Fin (cfg0.N + 1)) (n : ℕ) (h : t.val = n) :
    ((dat0 V c).owesAt () t : sProp 𝕄) ⊢ iprop(∃ W, owes (c : Thread nD τ) (ow c n) W) := by
  subst h
  unfold Dat.owesAt Pipeline.owesWithin
  iintro ⟨%W, -, HO⟩; iexists W; iexact HO

/-- A point's body, on whichever staging buffers it is on: from what is held before point `n` to what is held after it. -/
def PointOk (c : Dev nD) (t : Fin cfg0.N) (n : ℕ) : Prop :=
  ∀ (K : GSem nD τ sig → ℕ) (m₂ : Memref sig .tc .vmem S2048x4096 .bf16) (h₂ : m₂.IsWhole) (m₃ : Memref sig .tc .vmem S1024x2048 .bf16) (h₃ : m₃.IsWhole)
    (Kt : PUnit → sProp 𝕄),
    iprop(base (TT V) K c ∗ own c m₂ (blk0 V c t) ∗ own c m₃ (blk1 V c t) ∗ (∃ W, owes (c : Thread nD τ) (ow c n) W) ∗ PhiS V c n)
      ⊢ iprop(((own c m₂ (blk0 V c t) ∗ own c m₃ (blk1 V c t) ∗ (∃ W, owes (c : Thread nD τ) (ow c (n + 1)) W) ∗ PhiS V c (n + 1)) -∗ Kt ⟨⟩)
        -∗ wp frame (wpE (defs₀ (F := F)) 𝒱₀ (c : Thread nD τ) none) Set.univ (bodyOn (grid0.coords t) m₂ h₂ m₃ h₃) Kt)

theorem g0_1 : cond1 (grid0.coords t0_0) = 1#1 := by decide +kernel
theorem g0_2 : ¬ k0_cond2 (grid0.coords t0_0) = 1#1 := by decide +kernel
theorem g0_3 : ¬ k0_cond3 (grid0.coords t0_0) = 1#1 := by decide +kernel
theorem g0_4 : ¬ k0_cond4 (grid0.coords t0_0) = 1#1 := by decide +kernel
theorem g0_5 : ¬ k0_cond5 (grid0.coords t0_0) = 1#1 := by decide +kernel
theorem g0_6 : ¬ k0_cond6 (grid0.coords t0_0) = 1#1 := by decide +kernel
theorem point0 (c : Dev nD) : PointOk V c t0_0 0 := by
  intro K m₂ h₂ m₃ h₃ Kt
  show iprop(_ ∗ _ ∗ _ ∗ _ ∗ anyAt c accS ∗ S0 c) ⊢ iprop(((_ ∗ _ ∗ _ ∗ own c accS (accAt V c t0_0) ∗ S0 c) -∗ _) -∗ _)
  iintro ⟨-, H2, H3, HO, HA, HS⟩ Hk
  iapply (run_even c Kt m₂ h₂ m₃ h₃ (blk0 V c t0_0) (blk1 V c t0_0) (grid0.coords t0_0) g0_1 g0_2 g0_3 g0_4 g0_5 g0_6) $$ [H2 H3 HA]
  · isplitl [H2]; · iexact H2
    isplitl [H3]; · iexact H3
    iexact HA
  iintro ⟨H2, H3, HA⟩
  iapply Hk
  isplitl [H2]; · iexact H2
  isplitl [H3]; · iexact H3
  isplitl [HO]; · iexact HO
  isplitl [HA]; · iexact HA
  iexact HS

theorem g1_1 : ¬ cond1 (grid0.coords t0_1) = 1#1 := by decide +kernel
theorem g1_2 : k0_cond2 (grid0.coords t0_1) = 1#1 := by decide +kernel
theorem g1_3 : k0_cond3 (grid0.coords t0_1) = 1#1 := by decide +kernel
theorem g1_4 : ¬ k0_cond4 (grid0.coords t0_1) = 1#1 := by decide +kernel
theorem g1_5 : ¬ k0_cond5 (grid0.coords t0_1) = 1#1 := by decide +kernel
theorem g1_6 : ¬ k0_cond6 (grid0.coords t0_1) = 1#1 := by decide +kernel
theorem o1 (c : Dev nD) : k0_off2 (grid0.coords t0_1) c = k0_off3 c := by revert c; decide +kernel
theorem point1 (c : Dev nD) : PointOk V c t0_1 1 := by
  intro K m₂ h₂ m₃ h₃ Kt
  show iprop(_ ∗ _ ∗ _ ∗ _ ∗ own c accS (accAt V c t0_0) ∗ S0 c) ⊢ iprop(((_ ∗ _ ∗ owing c D1 ∗ anyAt c accS ∗ S1 c) -∗ _) -∗ _)
  iintro ⟨#HB, H2, H3, ⟨%W, HO⟩, HA, HS⟩ Hk
  iapply (run_1 (TT V) K c Kt m₂ h₂ m₃ h₃ (blk0 V c t0_1) (blk1 V c t0_1) (accAt V c t0_0) (grid0.coords t0_1) g1_1 g1_2 g1_3 g1_4 g1_5 g1_6 (o1 c) rfl W) $$ [H2 H3 HA HO HS]
  · isplitr; · iexact HB
    isplitl [H2]; · iexact H2
    isplitl [H3]; · iexact H3
    isplitl [HA]; · iexact HA
    isplitl [HO]; · iexact HO
    iexact HS
  iintro ⟨H2, H3, HA, HO, HS⟩
  iapply Hk
  isplitl [H2]; · iexact H2
  isplitl [H3]; · iexact H3
  isplitl [HO]; · iexact HO
  isplitl [HA]; · iexact HA
  iexact HS

theorem g2_1 : cond1 (grid0.coords t0_2) = 1#1 := by decide +kernel
theorem g2_2 : ¬ k0_cond2 (grid0.coords t0_2) = 1#1 := by decide +kernel
theorem g2_3 : ¬ k0_cond3 (grid0.coords t0_2) = 1#1 := by decide +kernel
theorem g2_4 : ¬ k0_cond4 (grid0.coords t0_2) = 1#1 := by decide +kernel
theorem g2_5 : ¬ k0_cond5 (grid0.coords t0_2) = 1#1 := by decide +kernel
theorem g2_6 : ¬ k0_cond6 (grid0.coords t0_2) = 1#1 := by decide +kernel
theorem point2 (c : Dev nD) : PointOk V c t0_2 2 := by
  intro K m₂ h₂ m₃ h₃ Kt
  show iprop(_ ∗ _ ∗ _ ∗ _ ∗ anyAt c accS ∗ S1 c) ⊢ iprop(((_ ∗ _ ∗ _ ∗ own c accS (accAt V c t0_2) ∗ S1 c) -∗ _) -∗ _)
  iintro ⟨-, H2, H3, HO, HA, HS⟩ Hk
  iapply (run_even c Kt m₂ h₂ m₃ h₃ (blk0 V c t0_2) (blk1 V c t0_2) (grid0.coords t0_2) g2_1 g2_2 g2_3 g2_4 g2_5 g2_6) $$ [H2 H3 HA]
  · isplitl [H2]; · iexact H2
    isplitl [H3]; · iexact H3
    iexact HA
  iintro ⟨H2, H3, HA⟩
  iapply Hk
  isplitl [H2]; · iexact H2
  isplitl [H3]; · iexact H3
  isplitl [HO]; · iexact HO
  isplitl [HA]; · iexact HA
  iexact HS

theorem g3_1 : ¬ cond1 (grid0.coords t0_3) = 1#1 := by decide +kernel
theorem g3_2 : k0_cond2 (grid0.coords t0_3) = 1#1 := by decide +kernel
theorem g3_3 : ¬ k0_cond3 (grid0.coords t0_3) = 1#1 := by decide +kernel
theorem g3_4 : k0_cond4 (grid0.coords t0_3) = 1#1 := by decide +kernel
theorem g3_5 : ¬ k0_cond5 (grid0.coords t0_3) = 1#1 := by decide +kernel
theorem g3_6 : ¬ k0_cond6 (grid0.coords t0_3) = 1#1 := by decide +kernel
theorem o3 (c : Dev nD) : k0_off2 (grid0.coords t0_3) c = k0_off4 c := by revert c; decide +kernel
theorem point3 (c : Dev nD) : PointOk V c t0_3 3 := by
  intro K m₂ h₂ m₃ h₃ Kt
  show iprop(_ ∗ _ ∗ _ ∗ owing c D1 ∗ own c accS (accAt V c t0_2) ∗ S1 c) ⊢ iprop(((_ ∗ _ ∗ owing c D2 ∗ anyAt c accS ∗ S2 c) -∗ _) -∗ _)
  iintro ⟨#HB, H2, H3, HO, HA, HS⟩ Hk
  iapply (run_3 (TT V) K c Kt m₂ h₂ m₃ h₃ (blk0 V c t0_3) (blk1 V c t0_3) (accAt V c t0_2) (grid0.coords t0_3) g3_1 g3_2 g3_3 g3_4 g3_5 g3_6 (o3 c) rfl) $$ [H2 H3 HA HO HS]
  · isplitr; · iexact HB
    isplitl [H2]; · iexact H2
    isplitl [H3]; · iexact H3
    isplitl [HA]; · iexact HA
    isplitl [HO]; · iexact HO
    iexact HS
  iintro ⟨H2, H3, HA, HO, HS⟩
  iapply Hk
  isplitl [H2]; · iexact H2
  isplitl [H3]; · iexact H3
  isplitl [HO]; · iexact HO
  isplitl [HA]; · iexact HA
  iexact HS

theorem g4_1 : cond1 (grid0.coords t0_4) = 1#1 := by decide +kernel
theorem g4_2 : ¬ k0_cond2 (grid0.coords t0_4) = 1#1 := by decide +kernel
theorem g4_3 : ¬ k0_cond3 (grid0.coords t0_4) = 1#1 := by decide +kernel
theorem g4_4 : ¬ k0_cond4 (grid0.coords t0_4) = 1#1 := by decide +kernel
theorem g4_5 : ¬ k0_cond5 (grid0.coords t0_4) = 1#1 := by decide +kernel
theorem g4_6 : ¬ k0_cond6 (grid0.coords t0_4) = 1#1 := by decide +kernel
theorem point4 (c : Dev nD) : PointOk V c t0_4 4 := by
  intro K m₂ h₂ m₃ h₃ Kt
  show iprop(_ ∗ _ ∗ _ ∗ _ ∗ anyAt c accS ∗ S2 c) ⊢ iprop(((_ ∗ _ ∗ _ ∗ own c accS (accAt V c t0_4) ∗ S2 c) -∗ _) -∗ _)
  iintro ⟨-, H2, H3, HO, HA, HS⟩ Hk
  iapply (run_even c Kt m₂ h₂ m₃ h₃ (blk0 V c t0_4) (blk1 V c t0_4) (grid0.coords t0_4) g4_1 g4_2 g4_3 g4_4 g4_5 g4_6) $$ [H2 H3 HA]
  · isplitl [H2]; · iexact H2
    isplitl [H3]; · iexact H3
    iexact HA
  iintro ⟨H2, H3, HA⟩
  iapply Hk
  isplitl [H2]; · iexact H2
  isplitl [H3]; · iexact H3
  isplitl [HO]; · iexact HO
  isplitl [HA]; · iexact HA
  iexact HS

theorem g5_1 : ¬ cond1 (grid0.coords t0_5) = 1#1 := by decide +kernel
theorem g5_2 : k0_cond2 (grid0.coords t0_5) = 1#1 := by decide +kernel
theorem g5_3 : ¬ k0_cond3 (grid0.coords t0_5) = 1#1 := by decide +kernel
theorem g5_4 : ¬ k0_cond4 (grid0.coords t0_5) = 1#1 := by decide +kernel
theorem g5_5 : k0_cond5 (grid0.coords t0_5) = 1#1 := by decide +kernel
theorem g5_6 : ¬ k0_cond6 (grid0.coords t0_5) = 1#1 := by decide +kernel
theorem o5 (c : Dev nD) : k0_off2 (grid0.coords t0_5) c = k0_off6 c := by revert c; decide +kernel
theorem point5 (c : Dev nD) : PointOk V c t0_5 5 := by
  intro K m₂ h₂ m₃ h₃ Kt
  show iprop(_ ∗ _ ∗ _ ∗ owing c D2 ∗ own c accS (accAt V c t0_4) ∗ S2 c) ⊢ iprop(((_ ∗ _ ∗ owing c D3 ∗ anyAt c accS ∗ S3 (TT V) c) -∗ _) -∗ _)
  iintro ⟨#HB, H2, H3, HO, HA, HS⟩ Hk
  iapply (run_5 (TT V) K c Kt m₂ h₂ m₃ h₃ (blk0 V c t0_5) (blk1 V c t0_5) (accAt V c t0_4) (grid0.coords t0_5) g5_1 g5_2 g5_3 g5_4 g5_5 g5_6 (o5 c) rfl) $$ [H2 H3 HA HO HS]
  · isplitr; · iexact HB
    isplitl [H2]; · iexact H2
    isplitl [H3]; · iexact H3
    isplitl [HA]; · iexact HA
    isplitl [HO]; · iexact HO
    iexact HS
  iintro ⟨H2, H3, HA, HO, HS⟩
  iapply Hk
  isplitl [H2]; · iexact H2
  isplitl [H3]; · iexact H3
  isplitl [HO]; · iexact HO
  isplitl [HA]; · iexact HA
  iexact HS

theorem g6_1 : cond1 (grid0.coords t0_6) = 1#1 := by decide +kernel
theorem g6_2 : ¬ k0_cond2 (grid0.coords t0_6) = 1#1 := by decide +kernel
theorem g6_3 : ¬ k0_cond3 (grid0.coords t0_6) = 1#1 := by decide +kernel
theorem g6_4 : ¬ k0_cond4 (grid0.coords t0_6) = 1#1 := by decide +kernel
theorem g6_5 : ¬ k0_cond5 (grid0.coords t0_6) = 1#1 := by decide +kernel
theorem g6_6 : ¬ k0_cond6 (grid0.coords t0_6) = 1#1 := by decide +kernel
theorem point6 (c : Dev nD) : PointOk V c t0_6 6 := by
  intro K m₂ h₂ m₃ h₃ Kt
  show iprop(_ ∗ _ ∗ _ ∗ _ ∗ anyAt c accS ∗ S3 (TT V) c) ⊢ iprop(((_ ∗ _ ∗ _ ∗ own c accS (accAt V c t0_6) ∗ S3 (TT V) c) -∗ _) -∗ _)
  iintro ⟨-, H2, H3, HO, HA, HS⟩ Hk
  iapply (run_even c Kt m₂ h₂ m₃ h₃ (blk0 V c t0_6) (blk1 V c t0_6) (grid0.coords t0_6) g6_1 g6_2 g6_3 g6_4 g6_5 g6_6) $$ [H2 H3 HA]
  · isplitl [H2]; · iexact H2
    isplitl [H3]; · iexact H3
    iexact HA
  iintro ⟨H2, H3, HA⟩
  iapply Hk
  isplitl [H2]; · iexact H2
  isplitl [H3]; · iexact H3
  isplitl [HO]; · iexact HO
  isplitl [HA]; · iexact HA
  iexact HS

theorem g7_1 : ¬ cond1 (grid0.coords t0_7) = 1#1 := by decide +kernel
theorem g7_2 : k0_cond2 (grid0.coords t0_7) = 1#1 := by decide +kernel
theorem g7_3 : ¬ k0_cond3 (grid0.coords t0_7) = 1#1 := by decide +kernel
theorem g7_4 : ¬ k0_cond4 (grid0.coords t0_7) = 1#1 := by decide +kernel
theorem g7_5 : ¬ k0_cond5 (grid0.coords t0_7) = 1#1 := by decide +kernel
theorem g7_6 : k0_cond6 (grid0.coords t0_7) = 1#1 := by decide +kernel
theorem o7 (c : Dev nD) : k0_off2 (grid0.coords t0_7) c = k0_off9 c := by revert c; decide +kernel
theorem point7 (c : Dev nD) : PointOk V c t0_7 7 := by
  intro K m₂ h₂ m₃ h₃ Kt
  show iprop(_ ∗ _ ∗ _ ∗ owing c D3 ∗ own c accS (accAt V c t0_6) ∗ S3 (TT V) c) ⊢ iprop(((_ ∗ _ ∗ owing c ∅ ∗ anyAt c accS ∗ S4 (TT V) c) -∗ _) -∗ _)
  iintro ⟨#HB, H2, H3, HO, HA, HS⟩ Hk
  iapply (run_7 (TT V) K c Kt m₂ h₂ m₃ h₃ (blk0 V c t0_7) (blk1 V c t0_7) (accAt V c t0_6) (grid0.coords t0_7) g7_1 g7_2 g7_3 g7_4 g7_5 g7_6 (o7 c) rfl) $$ [H2 H3 HA HO HS]
  · isplitr; · iexact HB
    isplitl [H2]; · iexact H2
    isplitl [H3]; · iexact H3
    isplitl [HA]; · iexact HA
    isplitl [HO]; · iexact HO
    iexact HS
  iintro ⟨H2, H3, HA, HO, HS⟩
  iapply Hk
  isplitl [H2]; · iexact H2
  isplitl [H3]; · iexact H3
  isplitl [HO]; · iexact HO
  isplitl [HA]; · iexact HA
  iexact HS

theorem owns_own {s : Shape} {e : EltTy} (c : Dev nD) (m : Memref sig .tc .vmem s e) (X : s.Idx → Elt F e) :
    (owns (c : Thread nD τ) m fullShare X : sProp 𝕄) ⊢ own c m X := .rfl
theorem own_owns {s : Shape} {e : EltTy} (c : Dev nD) (m : Memref sig .tc .vmem s e) (X : s.Idx → Elt F e) :
    (own c m X : sProp 𝕄) ⊢ owns (c : Thread nD τ) m fullShare X := .rfl

/-- A point's body as the pipeline calls it. -/
theorem at_point (c : Dev nD) (t : Fin cfg0.N) (n : ℕ) (hn : t.val = n) (h : PointOk V c t n) :
    iprop((dat0 V c).Φ t.castSucc ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) 𝒱₀ (c : Thread nD τ) none) Set.univ (defs₀ .tc cfg0.body (cfg0.bodyArgs t (cfg0.slots t))) fun _ =>
          iprop((dat0 V c).Φ t.succ ∗ (dat0 V c).owesAt () t.succ
            ∗ bigSep Finset.univ fun w : Fin cfg0.W => owns (c : Thread nD τ) ((cfg0.win w).stage (cfg0.slots t w)) fullShare ((dat0 V c).after w t)) := by
  have e1 : (dat0 V c).Φ t.castSucc = iprop((∃ K, base (TT V) K c) ∗ (∃ r, prngReg c r) ∗ PhiS V c n) := by
    show iprop(_ ∗ _ ∗ PhiS V c t.castSucc.val) = _; rw [Fin.val_castSucc, hn]
  have e2 : (dat0 V c).Φ t.succ = iprop((∃ K, base (TT V) K c) ∗ (∃ r, prngReg c r) ∗ PhiS V c (n + 1)) := by
    show iprop(_ ∗ _ ∗ PhiS V c t.succ.val) = _; rw [Fin.val_succ, hn]
  rw [e1, e2, bigSep_W0, bigSep_W0]
  iintro ⟨⟨⟨%K, #HB⟩, Hr, HS⟩, HO, ⟨%d0, H2⟩, ⟨%d1, H3⟩⟩
  ihave HO := (owesAt_to V c t.castSucc n hn) $$ [HO]; · iexact HO
  rw [before0, before1]
  iapply (h K (st0_0 t) (hstage0_0 ((cfg0.slots t 0).cast nbuf0_0)) (st0_1 t) (hstage0_1 ((cfg0.slots t 1).cast nbuf0_1)) _) $$ [H2 H3 HO HS]
  · isplitr; · iexact HB
    isplitl [H2]; · iapply (owns_own c (st0_0 t) _); iexact H2
    isplitl [H3]; · iapply (owns_own c (st0_1 t) _); iexact H3
    isplitl [HO]; · iexact HO
    iexact HS
  iintro ⟨H2, H3, HO, HS⟩
  isplitl [Hr HS]
  · isplitr; · iexists K; iexact HB
    isplitl [Hr]; · iexact Hr
    iexact HS
  isplitl [HO]
  · iapply (owesAt_of V c t.succ (n + 1) (by rw [Fin.val_succ, hn])); iexact HO
  isplitl [H2]; · iapply (own_owns c (st0_0 t) _); iexact H2
  iapply (own_owns c (st0_1 t) _); iexact H3

theorem body0 (c : Dev nD) : BodyObligation (dat0 V c) (defs₀ (F := F)) 𝒱₀ () Set.univ := fun t => by
  rcases fin_N0 t with rfl | rfl | rfl | rfl | rfl | rfl | rfl | rfl
  · exact at_point V c t0_0 0 rfl (point0 V c)
  · exact at_point V c t0_1 1 rfl (point1 V c)
  · exact at_point V c t0_2 2 rfl (point2 V c)
  · exact at_point V c t0_3 3 rfl (point3 V c)
  · exact at_point V c t0_4 4 rfl (point4 V c)
  · exact at_point V c t0_5 5 rfl (point5 V c)
  · exact at_point V c t0_6 6 rfl (point6 V c)
  · exact at_point V c t0_7 7 rfl (point7 V c)

end Cert.Talk
-- ==== Proof.Region.lean ====
module

public import proofs.«01_k».proof.Proof.Body
public import proofs.«01_k».proof.Proof.Gen.KernelIdeal.Regions
public import Idealize.ShloMosaic.Lib.Pipeline.RegionTalk

/-! The kernel's region as the launch runs it: what it takes, how its own cells are opened, what it leaves. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg HostSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The data -/

/-- The tiles, from the memory the program starts in. -/
abbrev TM : Dev nD → Fin 4 → Tile F := TT (V1 m)

abbrev pdats : (p : Fin 1) → (c : Dev nD) → Dat τ (Elt F) Unit ℕ UU ℕ (cfgs p) c := fun _ c => dat0 (V1 m) c

/-- The kernel's own semaphores. -/
abbrev osem : Fin 18 → SemLoc sig := fun j => .dma (dsem j)

/-- The result's buffer, and every unscoped buffer that is no window's array. -/
abbrev outS : Finset (DevRef τ sig) := {Proc.devRef .tc main_v17}
abbrev restS : Finset (DevRef τ sig) := Pipeline.ucRefs τ sig \ Pipeline.arrRefs spec0

/-- The unscoped buffers after the kernel: the result's holds the result. -/
abbrev VF (c : Dev nD) : Valuation τ sig (Elt F) := Function.update (V1 m c) (Proc.devRef .tc main_v17) (Out (TM m))

theorem out_mem : (outS : Finset (DevRef τ sig)) ⊆ restS := by
  intro b hb
  rw [Finset.mem_singleton.mp hb]
  exact Finset.mem_sdiff.mpr ⟨Finset.mem_filter.mpr ⟨StableHlo.devRef_mem_tcRefs main_v17, by decide⟩, by decide⟩

/-! ## The tokens: 0–17 the cells' first rounds, 18 and 19 the barrier's two duties, 20 and 21 the copy cells' second rounds -/

abbrev tsem : Fin 22 → SemLoc sig := fun k => if h : k.val < 18 then .dma (dsem ⟨k.val, h⟩) else if k = 18 ∨ k = 19 then .reg barS else if k = 20 then .dma (cS 0) else .dma (cS 1)
abbrev trd : Fin 22 → ℕ := fun k => if k = 20 ∨ k = 21 then 1 else 0
abbrev tdu : Fin 22 → Fin 2 := fun k => if k = 19 then 1 else 0
/-- The device whose cell the token is of, when device `c` pays the duty. -/
def tdev (k : Fin 22) (c : Dev nD) : Dev nD :=
  if h : 8 ≤ k.val ∧ k.val < 16 then tgt c ⟨k.val - 8, by omega⟩ else if k = 18 then yn c else if k = 19 then xn c else c
theorem tdev_tdev (k : Fin 22) (c : Dev nD) : tdev k (tdev k c) = c := by revert k c; decide
def tok (c : Dev nD) (k : Fin 22) : sProp 𝕄 := dutyTok ER ((tdev k c : Thread nD τ), tsem k) (trd k) (tdu k)

/-! ## What the launch keeps for the kernel, what its opened cells make of it, what is left -/

def Tk (c : Dev nD) : sProp 𝕄 :=
  iprop((∃ K, invs (TM m) K) ∗ (bigSep Finset.univ fun p : Dev nD => reached ER (barC p) 0) ∗ atPos ER (barC c) 0 ∅ 0
    ∗ (bigSep Finset.univ fun j : Fin 18 => openTok ER (dC c j)) ∗ (bigSep Finset.univ fun k : Fin 22 => tok c k)
    ∗ cred (tallyAt (barC c) () 2) ∗ bigSep Finset.univ fun j : Fin 8 => cred (tallyAt (rC c j) () (amt j)))
def start (c : Dev nD) : sProp 𝕄 :=
  iprop((atPos ER (barC c) 0 ∅ 0 ∗ cred (tallyAt (barC c) () 2) ∗ dutyTok ER (barC (yn c)) 0 0 ∗ dutyTok ER (barC (xn c)) 0 1)
    ∗ (E0 c 0 ∗ E0 c 1 ∗ E0 c 2 ∗ E0 c 3 ∗ E0 c 4 ∗ E0 c 5 ∗ E0 c 6 ∗ E0 c 7)
    ∗ (atPos ER (cC c 0) 0 ∅ 0 ∗ atPos ER (cC c 1) 0 ∅ 0)
    ∗ (dutyTok ER (cC c 0) 0 0 ∗ dutyTok ER (cC c 0) 1 0 ∗ dutyTok ER (cC c 1) 0 0 ∗ dutyTok ER (cC c 1) 1 0))
def Xk (c : Dev nD) : sProp 𝕄 := iprop((∃ K, base (TM m) K c) ∗ start c)
def Yk (c : Dev nD) : sProp 𝕄 := semVal (barC c) 0

/-! ## The sums written out -/

theorem six8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem six18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
theorem six22 (Φ : Fin 22 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21) :=
  bigSep_univ_eq_bigSepL [0, 1, 2, 3, 4, 5, 6, 7, 8, 9, 10, 11, 12, 13, 14, 15, 16, 17, 18, 19, 20, 21] (by decide) (by decide) Φ

theorem pair_up {I : Type} [Fintype I] {Φ Ψ : I → sProp 𝕄} :
    iprop(bigSep Finset.univ Φ ∗ bigSep Finset.univ Ψ) ⊢ bigSep Finset.univ (fun i => iprop(Φ i ∗ Ψ i)) := Entails.of_eq (bigSep_sep _ _ _).symm
theorem pair_down {I : Type} [Fintype I] {Φ Ψ : I → sProp 𝕄} :
    bigSep Finset.univ (fun i => iprop(Φ i ∗ Ψ i)) ⊢ iprop(bigSep Finset.univ Φ ∗ bigSep Finset.univ Ψ) := Entails.of_eq (bigSep_sep _ _ _)

theorem toks_eq (c : Dev nD) : (bigSep Finset.univ fun k : Fin 22 => tok (F := F) c k)
    = iprop(dutyTok ER (sC c 0) 0 0 ∗ dutyTok ER (sC c 1) 0 0 ∗ dutyTok ER (sC c 2) 0 0 ∗ dutyTok ER (sC c 3) 0 0 ∗ dutyTok ER (sC c 4) 0 0 ∗ dutyTok ER (sC c 5) 0 0 ∗ dutyTok ER (sC c 6) 0 0 ∗ dutyTok ER (sC c 7) 0 0 ∗ dutyTok ER (rC (tgt c 0) 0) 0 0 ∗ dutyTok ER (rC (tgt c 1) 1) 0 0 ∗ dutyTok ER (rC (tgt c 2) 2) 0 0 ∗ dutyTok ER (rC (tgt c 3) 3) 0 0 ∗ dutyTok ER (rC (tgt c 4) 4) 0 0 ∗ dutyTok ER (rC (tgt c 5) 5) 0 0 ∗ dutyTok ER (rC (tgt c 6) 6) 0 0 ∗ dutyTok ER (rC (tgt c 7) 7) 0 0 ∗ dutyTok ER (cC c 0) 0 0 ∗ dutyTok ER (cC c 1) 0 0 ∗ dutyTok ER (barC (yn c)) 0 0 ∗ dutyTok ER (barC (xn c)) 0 1 ∗ dutyTok ER (cC c 0) 1 0 ∗ dutyTok ER (cC c 1) 1 0) := (six22 _).trans rfl

/-- The opened cells' positions and the tokens, sorted. -/
theorem start_of (c : Dev nD) :
    iprop(atPos ER (barC c) 0 ∅ 0 ∗ (bigSep Finset.univ fun j : Fin 18 => atPos ER (dC c j) 0 ∅ 0) ∗ (bigSep Finset.univ fun k : Fin 22 => tok c k)
      ∗ cred (tallyAt (barC c) () 2) ∗ bigSep Finset.univ fun j : Fin 8 => cred (tallyAt (rC c j) () (amt j))) ⊢ (start c : sProp 𝕄) := by
  rw [six18, toks_eq, six8]
  unfold start E0
  iintro ⟨AB, ⟨A0, A1, A2, A3, A4, A5, A6, A7, A8, A9, A10, A11, A12, A13, A14, A15, A16, A17⟩, ⟨T0, T1, T2, T3, T4, T5, T6, T7, T8, T9, T10, T11, T12, T13, T14, T15, T16, T17, T18, T19, T20, T21⟩, CB, C0, C1, C2, C3, C4, C5, C6, C7⟩
  isplitl [AB CB T18 T19]
  · isplitl [AB]; · iexact AB
    isplitl [CB]; · iexact CB
    isplitl [T18]; · iexact T18
    iexact T19
  isplitl [T0 T8 A0 A8 C0 T1 T9 A1 A9 C1 T2 T10 A2 A10 C2 T3 T11 A3 A11 C3 T4 T12 A4 A12 C4 T5 T13 A5 A13 C5 T6 T14 A6 A14 C6 T7 T15 A7 A15 C7]
  · isplitl [T0 T8 A0 A8 C0]
    · isplitl [T0]; · iexact T0
      isplitl [T8]; · iexact T8
      isplitl [A0]; · iexact A0
      isplitl [A8]; · iexact A8
      iexact C0
    isplitl [T1 T9 A1 A9 C1]
    · isplitl [T1]; · iexact T1
      isplitl [T9]; · iexact T9
      isplitl [A1]; · iexact A1
      isplitl [A9]; · iexact A9
      iexact C1
    isplitl [T2 T10 A2 A10 C2]
    · isplitl [T2]; · iexact T2
      isplitl [T10]; · iexact T10
      isplitl [A2]; · iexact A2
      isplitl [A10]; · iexact A10
      iexact C2
    isplitl [T3 T11 A3 A11 C3]
    · isplitl [T3]; · iexact T3
      isplitl [T11]; · iexact T11
      isplitl [A3]; · iexact A3
      isplitl [A11]; · iexact A11
      iexact C3
    isplitl [T4 T12 A4 A12 C4]
    · isplitl [T4]; · iexact T4
      isplitl [T12]; · iexact T12
      isplitl [A4]; · iexact A4
      isplitl [A12]; · iexact A12
      iexact C4
    isplitl [T5 T13 A5 A13 C5]
    · isplitl [T5]; · iexact T5
      isplitl [T13]; · iexact T13
      isplitl [A5]; · iexact A5
      isplitl [A13]; · iexact A13
      iexact C5
    isplitl [T6 T14 A6 A14 C6]
    · isplitl [T6]; · iexact T6
      isplitl [T14]; · iexact T14
      isplitl [A6]; · iexact A6
      isplitl [A14]; · iexact A14
      iexact C6
    isplitl [T7]; · iexact T7
    isplitl [T15]; · iexact T15
    isplitl [A7]; · iexact A7
    isplitl [A15]; · iexact A15
    iexact C7
  isplitl [A16 A17]
  · isplitl [A16]; · iexact A16
    iexact A17
  isplitl [T16]; · iexact T16
  isplitl [T20]; · iexact T20
  isplitl [T17]; · iexact T17
  iexact T21

theorem hopen (c : Dev nD) : iprop(Tk m c ∗ Pipeline.ownSems0 osem c ∗ levAts L lv) ⊢ (|={Set.univ}=> Xk m c : sProp 𝕄) := by
  have h1 (K : GSem nD τ sig → ℕ) (j : Fin 18) : iprop(invs (TM m) K ∗ (openTok ER (dC c j) ∗ semVal (dC c j) 0))
      ⊢ (iprop(|={Set.univ}=> (atPos ER (dC c j) 0 ∅ 0 ∗ reached ER (dC c j) 0)) : sProp 𝕄) := by
    iintro ⟨#HI, HT, HV⟩
    ihave #H1 := (inv_d (TM m) K c j) $$ HI
    iapply (Rounds.cell_open ER (rd (TM m)) (g := dC c j) (Set.mem_univ (K (dC c j))))
    isplitr; · iexact H1
    isplitl [HT]; · iexact HT
    iexact HV
  unfold Tk Xk base marks
  iintro ⟨⟨⟨%K, #HI⟩, #HR, AB, HO, HT, CB, HC⟩, HS, #HL⟩
  ihave H := (pair_up (I := Fin 18) (Φ := fun j => openTok ER (dC c j)) (Ψ := fun j => semVal (dC c j) 0)) $$ [HO HS]
  · isplitl [HO]; · iexact HO
    iapply (Entails.of_eq (show Pipeline.ownSems0 osem c = (bigSep Finset.univ fun j : Fin 18 => semVal (dC c j) 0 : sProp 𝕄) from rfl)); iexact HS
  ihave H := (bigSep_with_persistent (R := invs (TM m) K) (S := Finset.univ) (fun j _ => h1 K j)) $$ [H]
  · isplitr; · iexact HI
    iexact H
  imod (bigSep_fupd (Finset.univ : Finset (Fin 18)) _) $$ H with H
  ihave H := pair_down $$ H
  icases H with ⟨HA, #HM⟩
  imodintro
  isplitr
  · iexists K
    isplitr; · iexact HI
    isplitr; · iexact HL
    isplitr; · iexact HR
    iexact HM
  iapply (start_of c)
  isplitl [AB]; · iexact AB
  isplitl [HA]; · iexact HA
  isplitl [HT]; · iexact HT
  isplitl [CB]; · iexact CB
  iexact HC

/-! ## Into the first point, out of the last -/

theorem any_of (c : Dev nD) (b : Ref sig .tc) : (iprop(∃ f : Buf (Elt F) ((c : Thread nD τ).loc b), ((c : Thread nD τ).loc b) ↦{fullShare} f) : sProp 𝕄)
    ⊢ anyAt c (Memref.whole b) := by
  unfold anyAt; iintro ⟨%f, H⟩; iexists f; iapply (Entails.of_eq (own_whole c b f).symm); iexact H
theorem any_to (c : Dev nD) (b : Ref sig .tc) : (anyAt c (Memref.whole b) : sProp 𝕄)
    ⊢ iprop(∃ f : Buf (Elt F) ((c : Thread nD τ).loc b), ((c : Thread nD τ).loc b) ↦{fullShare} f) := by
  unfold anyAt; iintro ⟨%f, H⟩; iexists f; iapply (Entails.of_eq (own_whole c b f)); iexact H

theorem acc_univ : (Rect.unit (s := S1024x1024) ![0, 0] S1024x1024.size inb_S1024x1024_S1024x1024_0_0).set = (Finset.univ : Finset S1024x1024.Idx) := by
  ext i
  refine ⟨fun _ => Finset.mem_univ _, fun _ => mem2.mpr ⟨⟨Nat.zero_le _, ?_⟩, Nat.zero_le _, ?_⟩⟩
  · have : (i 0).val < 1024 := (i 0).isLt
    show (i 0).val < 0 + 1024; omega
  · have : (i 1).val < 1024 := (i 1).isLt
    show (i 1).val < 0 + 1024; omega
theorem acc_in (c : Dev nD) : (anyAt c accM : sProp 𝕄) ⊢ anyAt c accS := by
  refine (any_to c cc0_scratch1).trans ?_
  unfold anyAt
  iintro ⟨%f, H⟩
  iexists _
  iapply (Entails.of_eq (own_slice c cc0_scratch1 _ (fun _ => rfl) f).symm)
  rw [acc_univ]; iexact H
theorem acc_out (c : Dev nD) : (anyAt c accS : sProp 𝕄) ⊢ anyAt c accM := by
  refine .trans ?_ (any_of c cc0_scratch1)
  unfold anyAt
  iintro ⟨%X, H⟩
  ihave H := (own_slice_elim c cc0_scratch1 (Rect.unit (s := S1024x1024) ![0, 0] S1024x1024.size inb_S1024x1024_S1024x1024_0_0) (fun _ => rfl) X) $$ [H]
  · iexact H
  icases H with ⟨%f, -, H⟩
  iexists f
  rw [acc_univ]; iexact H

theorem held_out (c : Dev nD) (V : Valuation τ sig (Elt F)) :
    (StableHlo.held (c.tc : Thread nD τ) outS V : sProp 𝕄) = own c outM (V (Proc.devRef .tc main_v17)) :=
  (bigSep_singleton).trans (own_whole c main_v17 _).symm

theorem hin (c : Dev nD) :
    iprop(Pipeline.scopedRest spec0 c ∗ (∃ r, prngReg c r) ∗ StableHlo.held (c.tc : Thread nD τ) outS (V1 m c) ∗ Xk m c)
      ⊢ ((dat0 (V1 m) c).Φ 0 : sProp 𝕄) := by
  show _ ⊢ iprop((∃ K, base (TM m) K c) ∗ (∃ r, prngReg c r) ∗ anyAt c accS ∗ S0 c)
  rw [scopedRest0_eq, held_out]
  unfold Xk start S0 Cp
  iintro ⟨⟨H0, H1, H2, H3, H4⟩, Hp, Hout, HK, Hb, He, Hat, Ht⟩
  ihave Hg := (any_of c cc0_scratch0) $$ H0
  ihave Ha := (any_of c cc0_scratch1) $$ H1
  ihave Hst := (any_of c cc0_scratch2) $$ H2
  ihave Hra := (any_of c cc0_scratch3) $$ H3
  ihave Hrb := (any_of c cc0_scratch4) $$ H4
  ihave Hg := (g_cut c) $$ Hg
  ihave Hst := (st_cut c) $$ Hst
  ihave Hra := (ra_cut c) $$ Hra
  ihave Hrb := (rb_cut c) $$ Hrb
  icases Hra with ⟨Hra0, Hra1⟩
  icases Hrb with ⟨Hrb0, Hrb1⟩
  ihave Hout := (own_any c outM _) $$ Hout
  ihave Hout := (out_cut c) $$ Hout
  isplitl [HK]; · iexact HK
  isplitl [Hp]; · iexact Hp
  isplitl [Ha]; · iapply (acc_in c); iexact Ha
  isplitl [Hb]; · iexact Hb
  isplitl [Hra0 Hra1 Hrb0 Hrb1]
  · isplitl [Hra0]; · iapply (any_sq c (raU 0) squeezes_S1x1024x1024_S1024x1024); iexact Hra0
    isplitl [Hra1]; · iapply (any_sq c (raU 1) squeezes_S1x1024x1024_S1024x1024); iexact Hra1
    isplitl [Hrb0]; · iapply (any_sq c (rbU 0) squeezes_S1x512x1024_S512x1024); iexact Hrb0
    iapply (any_sq c (rbU 1) squeezes_S1x512x1024_S512x1024); iexact Hrb1
  isplitl [Hg]; · iexact Hg
  isplitl [He]; · iexact He
  isplitl [Hat]; · iexact Hat
  isplitl [Ht]; · iexact Ht
  isplitl [Hst]; · iexact Hst
  iexact Hout

theorem VF_out (c : Dev nD) : VF m c (Proc.devRef .tc main_v17) = Out (TM m) := Function.update_self ..

theorem hout (c : Dev nD) : ((dat0 (V1 m) c).Φ (Fin.last cfg0.N) : sProp 𝕄)
    ⊢ iprop(Pipeline.scopedRest spec0 c ∗ (∃ r, prngReg c r) ∗ StableHlo.held (c.tc : Thread nD τ) outS (VF m c)
      ∗ Pipeline.ownSems0 osem c ∗ Yk c) := by
  show iprop((∃ K, base (TM m) K c) ∗ (∃ r, prngReg c r) ∗ anyAt c accS ∗ S4 (TM m) c) ⊢ _
  rw [scopedRest0_eq, held_out, VF_out, show (Pipeline.ownSems0 osem c : sProp 𝕄) = _ from six18 (fun j => semVal (dC c j) 0)]
  unfold S4 E2 Yk
  iintro ⟨-, Hp, Ha, Hb, ⟨Hra0, Hra1, Hrb0, Hrb1⟩, ⟨Hg, Hst0, Hst1, Hout⟩, ⟨⟨S0, S8⟩, ⟨S1, S9⟩, ⟨S2, S10⟩, ⟨S3, S11⟩, ⟨S4, S12⟩, ⟨S5, S13⟩, ⟨S6, S14⟩, ⟨S7, S15⟩⟩, S16, S17⟩
  isplitl [Hg Ha Hst0 Hst1 Hra0 Hra1 Hrb0 Hrb1]
  · isplitl [Hg]
    · iapply (any_to c cc0_scratch0)
      iapply (own_any c gM _); iexact Hg
    isplitl [Ha]
    · iapply (any_to c cc0_scratch1)
      iapply (acc_out c); iexact Ha
    isplitl [Hst0 Hst1]
    · iapply (any_to c cc0_scratch2)
      iapply (st_glue c)
      isplitl [Hst0]; · iapply (any_unsq c (stU 0) squeezes_S1x512x2048_S512x2048); iexact Hst0
      iapply (any_unsq c (stU 1) squeezes_S1x512x2048_S512x2048); iexact Hst1
    isplitl [Hra0 Hra1]
    · iapply (any_to c cc0_scratch3)
      iapply (ra_glue c)
      isplitl [Hra0]; · iapply (any_unsq c (raU 0) squeezes_S1x1024x1024_S1024x1024); iexact Hra0
      iapply (any_unsq c (raU 1) squeezes_S1x1024x1024_S1024x1024); iexact Hra1
    iapply (any_to c cc0_scratch4)
    iapply (rb_glue c)
    isplitl [Hrb0]; · iapply (any_unsq c (rbU 0) squeezes_S1x512x1024_S512x1024); iexact Hrb0
    iapply (any_unsq c (rbU 1) squeezes_S1x512x1024_S512x1024); iexact Hrb1
  isplitl [Hp]; · iexact Hp
  isplitl [Hout]; · iexact Hout
  isplitr [Hb]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  iexact Hb

/-! ## The region -/

theorem kitP : Pipeline.PLaunchFacts (nD := nD) (τ := τ) (pcfgs (F := F)) 0 :=
  { cellOf_inj := fun a => by rw [Subsingleton.elim a adm]; exact cellOf_inj, win := winFacts0, pre := Pipeline.PreFacts.none _, block_pos := block_pos0, arr_whole := arr_whole0, stage_whole := stage_whole0 }

theorem ow_lv (c : Dev nD) (n : ℕ) (g : GSem nD τ sig) (u : Unit) (h : 0 < ow c n g u) : u ∈ L g ∧ 0 < lv g u := by
  have hR (S : Finset (Fin 8)) (h : 0 < oweR c S g u) : u ∈ L g ∧ 0 < lv g u := by
    obtain ⟨j, -, rfl⟩ := oweR_pos c S g u h
    exact ⟨by rw [L_tc]; exact Finset.mem_singleton_self _, by cases u; rw [lv_r]; omega⟩
  have hB (p : Dev nD) (h : 0 < tallyAt (barC p) () 1 g u) : u ∈ L g ∧ 0 < lv g u := by
    by_cases e : g = barC p
    · subst e; exact ⟨by rw [L_tc]; exact Finset.mem_singleton_self _, Nat.one_pos⟩
    · rw [tallyAt_ne_cell e, Finsupp.zero_apply] at h; exact absurd h (lt_irrefl 0)
  have h0 (h : 0 < O₀ c g u) : u ∈ L g ∧ 0 < lv g u := by
    unfold O₀ at h
    rw [Pi.add_apply, Finsupp.add_apply, Pi.add_apply, Finsupp.add_apply] at h
    rcases Nat.eq_zero_or_pos (oweR c Finset.univ g u) with e | e
    · rcases Nat.eq_zero_or_pos (tallyAt (barC (xn c)) () 1 g u) with e' | e'
      · rw [e, e', Nat.zero_add] at h; exact hB _ h
      · exact hB _ e'
    · exact hR _ e
  unfold ow at h
  split at h <;> first | exact h0 h | exact hR _ h

theorem share0 (c : Dev nD) (w : Fin 2) : (dat0 (V1 m) c).share w = fullShare := by
  match w with
  | 0 => rfl
  | 1 => rfl
theorem ins0 (w : Fin 2) : (cfg0.win w).isOut = false := by
  match w with
  | 0 => rfl
  | 1 => rfl
theorem stage_lv (c : Dev nD) (w : Fin 2) (s : Fin (cfg0.win w).nbuf) : lv ((c : Thread nD τ), .dma ((cfg0.win w).sem s)) () = 0 :=
  if_neg fun h => by
    have : ∀ (w : Fin 2) (s : Fin (cfg0.win w).nbuf), ((cfg0.win w).sem s).val < 11 := by decide
    exact absurd h.1 (Nat.not_le.mpr (this w s))
theorem arr_kept (c : Dev nD) (w : Fin 2) : V1 m c (Pipeline.arrRef spec0 w) = VF m c (Proc.devRef .tc (Pipeline.arrRef spec0 w)) := by
  match w with
  | 0 => exact (Function.update_of_ne (StableHlo.devRef_ne_of_ne (by decide)) _ _).symm
  | 1 => exact (Function.update_of_ne (StableHlo.devRef_ne_of_ne (by decide)) _ _).symm

set_option backward.isDefEq.respectTransparency.types false in
def reg0 : RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    outS restS out_mem kitP rfl (fun c => (body0 (V1 m) c).loose)
    (fun _ => 0) O₀ (fun c => (zero_add (O₀ c)).symm) (fun c => oweR_empty c) (fun _ => rfl) (share0 m)
    (V1 m) (VF m) (fun c b hb => Function.update_of_ne (by
      rintro rfl; exact (Finset.mem_sdiff.mp hb).2 (Finset.mem_singleton_self _)) _ _)
    (Tk m) Yk (Xk m) Yk (hopen m) (hin m) (hout m)
    (fun c => by iintro H; imodintro; iexact H)
    (fun _ => 0)
    ⟨fun c w s => by rw [L_tc]; exact Finset.mem_singleton_self _, fun c w s => (stage_lv c w s).le, fun c t g i h => ow_lv c t.val g i h⟩
    (fun _ => iprop(emp))
    (fun c w => Dat.arrAt_in _ w (ins0 w) 0)
    (fun c w => (Dat.arrAt_in _ w (ins0 w) _).trans (arr_kept m c w))

end Cert.Talk
-- ==== Proof.Start.lean ====
module

public import proofs.«01_k».proof.Proof.Region

/-! The launch: every cell funded, everything dealt to the devices, and the whole run. -/

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg HostSeg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The thread states -/

/-- Beside the unscoped buffers: before the kernel, and after it. -/
def EE : Fin 2 → Dev nD → sProp 𝕄
  | 0, c => iprop(Tk m c ∗ (∃ r, prngReg c r) ∗ ∃ W, owes (c : Thread nD τ) (O₀ c) W)
  | 1, c => iprop(semVal (barC c) 0 ∗ ∃ W, owes (c : Thread nD τ) (0 : CellTallies nD τ sig Unit) W)

theorem arr_sub : Pipeline.arrRefs (τ := τ) spec0 ⊆ Pipeline.ucRefs τ sig := Pipeline.arrRefs_sub_ucRefs spec0 (by decide)

theorem reg0_pre (c : Dev nD) : iprop(StableHlo.held (c : Thread nD τ) (Pipeline.ucRefs τ sig) (V1 m c) ∗ EE m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) restS (V1 m c) ∗ emp) ∗ Tk m c ∗ ∃ Wd, owes (c : Thread nD τ) (0 + O₀ c) Wd)
  rw [StableHlo.held_sub_split (c : Thread nD τ) arr_sub (V1 m c), zero_add]
  unfold EE
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
theorem reg0_post (c : Dev nD) : (reg0 m).post c ⊢ iprop(StableHlo.held (c : Thread nD τ) (Pipeline.ucRefs τ sig) (VF m c) ∗ EE m 1 c) := by
  show iprop(StableHlo.held (c.tc : Thread nD τ) (Pipeline.arrRefs (τ := τ) spec0) (VF m c) ∗ (∃ r, prngReg c r)
    ∗ (StableHlo.held (c.tc : Thread nD τ) restS (VF m c) ∗ emp) ∗ Yk c ∗ ∃ Wd, owes (c : Thread nD τ) (0 : CellTallies nD τ sig Unit) Wd) ⊢ _
  rw [StableHlo.held_sub_split (c : Thread nD τ) arr_sub (VF m c)]
  unfold EE Yk
  iintro ⟨Ha, -, ⟨Hr, -⟩, HY, HO⟩
  isplitl [Ha Hr]
  · isplitl [Ha]; · iexact Ha
    iexact Hr
  isplitl [HY]; · iexact HY
  iexact HO

/-! ## The ghost state the launch starts from -/

theorem tk_inj : Function.Injective (fun k : Fin 22 => (tsem k, trd k, tdu k)) := by decide
def talkToks : Finset (GSem nD τ sig × ℕ × Fin 2) :=
  Finset.univ.map ⟨fun x : Dev nD × Fin 22 => (((x.1 : Thread nD τ), tsem x.2), trd x.2, tdu x.2), fun _ _ h =>
    Prod.ext (congrArg (fun t : GSem nD τ sig × ℕ × Fin 2 => t.1.1.1) h)
      (tk_inj (Prod.ext (congrArg (fun t : GSem nD τ sig × ℕ × Fin 2 => t.1.2) h) (congrArg (fun t : GSem nD τ sig × ℕ × Fin 2 => t.2) h)))⟩

theorem cells_disjoint : Disjoint barCells dCells := by
  rw [Finset.disjoint_left]
  rintro g h₁ h₂
  obtain ⟨c, -, rfl⟩ := Finset.mem_map.mp h₁
  obtain ⟨x, -, h⟩ := Finset.mem_map.mp h₂
  have h' : (SemLoc.dma (dsem x.2) : SemLoc sig) = .reg barS := congrArg Prod.snd h
  cases h'

def u₀ : UU :=
  (initOf (Pipeline.cells (Pipeline.pin (pcfgs (F := F)) adm) cellOf_inj) (Pipeline.launchToks (Pipeline.pin (pcfgs (F := F)) adm) cellOf_inj),
    launchOf barCells dCells talkToks)

/-- Everything of `X` on device 0, nothing on the others. -/
def atZero (X : sProp 𝕄) (c : Dev nD) : sProp 𝕄 := if c = (0 : Fin 4) then X else iprop(emp)
theorem sum_atZero (X : sProp 𝕄) : bigSep Finset.univ (atZero X) = X := by
  rw [bigSep_univ_at _ (0 : Fin 4), bigSep_congr (s := Finset.univ.erase (0 : Fin 4)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp
def GG : Dev nD → sProp 𝕄 := atZero (BI.own (ER (launchOf barCells dCells talkToks)))

/-- Each token to the device that pays its duty. -/
def deal : Dev nD × Fin 22 ≃ Dev nD × Fin 22 where
  toFun x := (tdev x.2 x.1, x.2)
  invFun x := (tdev x.2 x.1, x.2)
  left_inv x := Prod.ext (tdev_tdev x.2 x.1) rfl
  right_inv x := Prod.ext (tdev_tdev x.2 x.1) rfl
theorem toks_dealt : bigSep talkToks (fun x => (dutyTok ER x.1 x.2.1 x.2.2 : sProp 𝕄))
    = bigSep Finset.univ fun c : Dev nD => bigSep Finset.univ fun k : Fin 22 => tok c k := by
  unfold talkToks
  rw [bigSep_map, bigSep_univ_equiv deal, bigSep_univ_prod]
  rfl

/-! ## The credits of the launch -/

theorem at_bar (p c : Dev nD) (n : ℕ) : (tallyAt (barC p) () n : CellTallies nD τ sig Unit) (barC c) () = if p = c then n else 0 := by
  rw [tallyAt_apply]
  by_cases h : p = c
  · subst h; rw [if_pos ⟨rfl, rfl⟩, if_pos rfl]
  · rw [if_neg (fun e => h (congrArg (fun g : GSem nD τ sig => g.1.1) e.1).symm), if_neg h]
theorem rC_inj {p c : Dev nD} {i j : Fin 8} (h : rC p i = rC c j) : p = c ∧ i = j := by
  have h1 : p = c := congrArg (fun g : GSem nD τ sig => g.1.1) h
  have h2 : (SemLoc.dma (rS i) : SemLoc sig) = .dma (rS j) := congrArg Prod.snd h
  have h3 : rS i = rS j := by injection h2
  have h4 : 3 + (8 + i.val) = 3 + (8 + j.val) := congrArg Fin.val h3
  exact ⟨h1, Fin.ext (by omega)⟩
theorem bar_ne_r (p c : Dev nD) (j : Fin 8) : barC p ≠ rC c j := fun h => by
  have h' : (SemLoc.reg barS : SemLoc sig) = .dma (rS j) := congrArg Prod.snd h
  cases h'

theorem oweR_r (d c : Dev nD) (j : Fin 8) : oweR d Finset.univ (rC c j) () = if d = tgt c j then amt j else 0 := by
  unfold oweR
  rw [Finset.sum_apply, Finsupp.finset_sum_apply, Finset.sum_eq_single j]
  · rw [tallyAt_apply]
    by_cases h : d = tgt c j
    · subst h; rw [tgt_tgt, if_pos ⟨rfl, rfl⟩, if_pos rfl]
    · rw [if_neg (fun e => h (by rw [(rC_inj e.1).1, tgt_tgt])), if_neg h]
  · intro i _ hi
    rw [tallyAt_ne_cell (fun e => hi (rC_inj e).2.symm), Finsupp.zero_apply]
  · exact fun h => absurd (Finset.mem_univ j) h
theorem oweR_bar (d c : Dev nD) : oweR d Finset.univ (barC c) () = 0 := by
  unfold oweR
  rw [Finset.sum_apply, Finsupp.finset_sum_apply]
  exact Finset.sum_eq_zero fun i _ => by rw [tallyAt_ne_cell (bar_ne_r _ _ _), Finsupp.zero_apply]

theorem owed_bar (d c : Dev nD) : O₀ d (barC c) () = (if d = xn c then 1 else 0) + (if d = yn c then 1 else 0) := by
  unfold O₀
  rw [Pi.add_apply, Finsupp.add_apply, Pi.add_apply, Finsupp.add_apply, oweR_bar, Nat.zero_add, at_bar, at_bar]
  have hx : xn d = c ↔ d = xn c := ⟨fun h => by rw [← h, xn_xn], fun h => by rw [h, xn_xn]⟩
  have hy : yn d = c ↔ d = yn c := ⟨fun h => by rw [← h, yn_yn], fun h => by rw [h, yn_yn]⟩
  simp only [hx, hy]
theorem owed_r (d c : Dev nD) (j : Fin 8) : O₀ d (rC c j) () = if d = tgt c j then amt j else 0 := by
  unfold O₀
  rw [Pi.add_apply, Finsupp.add_apply, Pi.add_apply, Finsupp.add_apply, oweR_r, tallyAt_ne_cell (bar_ne_r _ _ _).symm,
    tallyAt_ne_cell (bar_ne_r _ _ _).symm, Finsupp.zero_apply, Nat.add_zero, Nat.add_zero]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xn c) fun _ => 1, Finset.sum_ite_eq' Finset.univ (yn c) fun _ => 1, if_pos (Finset.mem_univ _), if_pos (Finset.mem_univ _)]
theorem launch_r (c : Dev nD) (j : Fin 8) :
    tallyOn (rC c j) (launchCredit (Pipeline.owing O₀) 0 (rC c j)) = (tallyAt (rC c j) () (amt j) : CellTallies nD τ sig Unit) := by
  unfold tallyAt; refine congrArg _ (Finsupp.ext fun u => ?_); cases u
  rw [Pipeline.launchCredit_owing, Finsupp.single_eq_same, Finset.sum_congr rfl fun d _ => owed_r d c j,
    Finset.sum_ite_eq' Finset.univ (tgt c j) fun _ => amt j, if_pos (Finset.mem_univ _)]

def rEmb : Fin 8 ↪ SemLoc sig := ⟨fun j => .dma (rS j), fun i j h => by
  have h3 : rS i = rS j := by injection h
  have h4 : 3 + (8 + i.val) = 3 + (8 + j.val) := congrArg Fin.val h3
  exact Fin.ext (by omega)⟩
theorem creds (c : Dev nD) : (Pipeline.launchCred O₀ c : sProp 𝕄)
    ⊢ iprop(cred (tallyAt (barC c) () 2) ∗ bigSep Finset.univ fun j : Fin 8 => cred (tallyAt (rC c j) () (amt j))) := by
  unfold Pipeline.launchCred
  rw [bigSep_univ_at _ (SemLoc.reg barS), launch_bar]
  refine sep_mono_right ?_
  have hsub : Finset.univ.map rEmb ⊆ Finset.univ.erase (SemLoc.reg barS) := fun sm h => by
    obtain ⟨j, -, rfl⟩ := Finset.mem_map.mp h
    exact Finset.mem_erase.mpr ⟨(by intro e; cases e), Finset.mem_univ _⟩
  refine (bigSep_subset hsub).trans ?_
  · rw [bigSep_map]
    exact Entails.of_eq (bigSep_congr fun j _ => by rw [← launch_r]; rfl)

/-! ## Dealing -/

def records (κ : GSem nD τ sig → ℕ) : sProp 𝕄 :=
  iprop(invs (TM m) κ ∗ bigSep Finset.univ fun p : Dev nD => reached ER (barC p) 0)
instance records_persistent (κ : GSem nD τ sig → ℕ) : BI.Persistent (records m κ) := by unfold records; infer_instance

/-- A device's own part of the ghost state. -/
def linear (c : Dev nD) : sProp 𝕄 :=
  iprop(atPos ER (barC c) 0 ∅ 0 ∗ (bigSep Finset.univ fun j : Fin 18 => openTok ER (dC c j)) ∗ bigSep Finset.univ fun k : Fin 22 => tok c k)
/-- A device's share of the machine at launch. -/
def bundle (c : Dev nD) : sProp 𝕄 :=
  iprop(StableHlo.held (c : Thread nD τ) (Pipeline.ucRefs τ sig) (V0 m c)
    ∗ (cred (tallyAt (barC c) () 2) ∗ bigSep Finset.univ fun j : Fin 8 => cred (tallyAt (rC c j) () (amt j)))
    ∗ owes (c : Thread nD τ) (O₀ c) ∅ ∗ ∃ r, prngReg c r)
abbrev TS (c : Dev nD) : sProp 𝕄 := iprop(StableHlo.held (c : Thread nD τ) (Pipeline.ucRefs τ sig) (V0 m c) ∗ EE m 0 c)

theorem TS_intro (κ : GSem nD τ sig → ℕ) (c : Dev nD) : iprop(records m κ ∗ (linear c ∗ bundle m c)) ⊢ TS m c := by
  unfold records linear bundle TS EE Tk
  iintro ⟨⟨#HI, #HR⟩, ⟨HA, Hop, Ht⟩, Hh, ⟨HB, HC⟩, HO, Hp⟩
  isplitl [Hh]; · iexact Hh
  isplitr [HO Hp]
  · isplitr; · iexists κ; iexact HI
    isplitr; · iexact HR
    isplitl [HA]; · iexact HA
    isplitl [Hop]; · iexact Hop
    isplitl [Ht]; · iexact Ht
    isplitl [HB]; · iexact HB
    iexact HC
  isplitl [Hp]; · iexact Hp
  iexists ∅; iexact HO

theorem unscoped_eq : ∀ sm : SemLoc sig, sm.isScoped .tc = false → sm = .reg barS := by decide
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ GG c)) ∗ levAts L lv)
      ⊢ (|={Set.univ}=> bigSep Finset.univ (TS m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ GG c)
      ⊢ (iprop(bundle m c ∗ (semVal (barC c) 0 ∗ GG c)) : sProp 𝕄) := by
    rw [show unscopedBufs c (fun b => m ((c : Thread nD τ).loc b)) = StableHlo.held (c : Thread nD τ) (Pipeline.ucRefs τ sig) (V0 m c) from Pipeline.unscopedBufs_held c (V0 m c),
      unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barC c) 0 : sProp 𝕄)) :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hop : bigSep dCells (fun g => (openTok ER g : sProp 𝕄))
      ⊢ bigSep Finset.univ (fun c : Dev nD => (bigSep Finset.univ fun j : Fin 18 => openTok ER (dC c j) : sProp 𝕄)) :=
    Entails.of_eq (by unfold dCells; rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ GG c))
      ⊢ (bigSep Finset.univ fun c : Dev nD => iprop(bundle m c ∗ (semVal (barC c) 0 ∗ GG c)) : sProp 𝕄) from bigSep_mono fun c _ => hcore c) $$ H
  ihave H := pair_down $$ H; icases H with ⟨HB, H⟩
  ihave H := pair_down $$ H; icases H with ⟨Hv, HG⟩
  ihave Hu := (show bigSep Finset.univ (GG (F := F)) ⊢ BI.own (ER (launchOf barCells dCells talkToks)) from
    Entails.of_eq (sum_atZero (F := F) (BI.own (ER (launchOf barCells dCells talkToks))))) $$ HG
  imod (Rounds.fund_launch ER (rd (TM m)) cells_disjoint (fun g _ h => h) talkToks) $$ [Hv Hu] with ⟨%κ, -, #Hinv, #Hr, Hat, Hopen, Htok⟩
  · isplitl [Hv]
    · iapply hv $$ Hv
    · iexact Hu
  imodintro
  ihave #Hr' := hr $$ Hr
  iapply (bigSep_with_persistent (R := records m κ) (Φ := fun c => iprop(linear c ∗ bundle m c)) fun c _ => TS_intro m κ c)
  isplitr
  · unfold records invs
    isplitr; · iexact Hinv
    iexact Hr'
  iapply pair_up
  isplitr [HB]
  · unfold linear
    iapply pair_up; isplitl [Hat]; · iapply hat $$ Hat
    iapply pair_up; isplitl [Hopen]; · iapply hop $$ Hopen
    iapply (Entails.of_eq (toks_dealt (F := F))) $$ Htok
  · iexact HB

/-! ## The run -/

theorem VF_arg (c : Dev nD) (r : Ref sig .tc) (h : r ∉ hostOps0_W) (h' : r ≠ main_v17) : VF m c r = m ((c : Thread nD τ).loc r) :=
  (Function.update_of_ne (StableHlo.devRef_ne_of_ne h') _ _).trans (V1_of m c r h)

set_option backward.isDefEq.respectTransparency.types false in
/-- From any memory with zero counters every run ends, the arguments as they were, the result's buffer on every device
    holding `Out` of the tiles, every counter zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v17) = Out (TM m)) ∧ r.2.sem = fun _ => 0) := by
  refine Pipeline.θ_run_regions_kit_dev_sems (pcfgs (F := F)) adm (pdats m) () cellOf_inj EP defs₀ 𝒱₀ L lv m ρ main
    (segs m 𝒱₀ L lv (EE m) () (pdats m) (reg0 m))
    (fun c Q => by
      rewrite [main_chain c, Seg.run_eq_chain,
        show (segs m 𝒱₀ L lv (EE m) () (pdats m) (reg0 m) c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide)
    (O₀ := O₀) (hL := L_of_ne) (G := GG) (u₀ := u₀ (F := F))
    (hu₀ := by
      unfold u₀ GG
      iintro Hu
      ihave H := (ownU_pair _ _) $$ Hu
      icases H with ⟨HP, HX⟩
      imodintro
      isplitl [HP]; · iexact HP
      rw [sum_atZero]; iexact HX)
    (T₀ := TS m) (Tₙ := fun c => iprop(StableHlo.held (c : Thread nD τ) (Pipeline.ucRefs τ sig) (VF m c) ∗ semVal (barC c) 0))
    (hch := fun c => ⟨.rfl, reg0_pre m c, (reg0_post m c).trans (by
      unfold EE
      iintro ⟨Hh, Hb, HO⟩
      isplitr [HO]
      · isplitl [Hh]; · iexact Hh
        iexact Hb
      iexact HO)⟩)
    (hinit := init m ρ)
    (QY := fun c s => (∀ b ∈ Pipeline.ucRefs τ sig, s.mem ((c : Thread nD τ).1, b) = VF m c b) ∧ s.sem (barC c) = 0)
    (hfin := fun c s' => ?_)
    (hQ := fun s h hs => ⟨fun c => ?_, sem_eq_zero hs fun c sm hsm => by
      obtain rfl := unscoped_eq sm hsm
      exact (h c).2⟩)
  · unfold StableHlo.held
    iintro ⟨⟨Hh, Hb⟩, HSI⟩
    icombine HSI Hb gives %hb
    ihave H := (pointsTo_read_all (Pipeline.ucRefs τ sig) (fun b => ((c : Thread nD τ).1, b)) (VF m c) s') $$ [Hh HSI]
    · isplitl [Hh]; · iexact Hh
      iexact HSI
    icases H with ⟨%h, HSI⟩
    imodintro
    isplitr
    · ipureintro
      exact ⟨h, by simpa using hb⟩
    iexact HSI
  · have e (r : Ref sig .tc) (hr : ¬ (Proc.devRef .tc r : DevRef τ sig).isScoped) : s.mem ((c.tc : Thread nD τ).loc r) = VF m c r :=
      (h c).1 (Proc.devRef .tc r) (Finset.mem_filter.mpr ⟨StableHlo.devRef_mem_tcRefs r, hr⟩)
    exact ⟨(e main_arg0 (by decide)).trans (VF_arg m c main_arg0 (by decide) (by decide)),
      (e main_arg1 (by decide)).trans (VF_arg m c main_arg1 (by decide) (by decide)), (e main_v17 (by decide)).trans (VF_out m c)⟩

end Cert.Talk
-- ==== Proof.Same.lean ====
module

public import proofs.«01_k».proof.Defs
public import proofs.«01_k».proof.Proof.Gen.Kernel
public import proofs.«01_k».proof.Proof.Gen.KernelIdeal

/-! The kernel's program and its reading at the ideal values are one text: their tables of bodies are equal. -/

@[expose] public section
noncomputable section
namespace Cert.Proof
open Idealize.ShloMosaic Idealize.SL.Sem
attribute [local instance] Cert.Kernel.Gen.facts Cert.KernelIdeal.Gen.facts
set_option maxRecDepth 20000

/-- The kernels' bodies agree, label by label. -/
theorem bodies_same : @Cert.Kernel.defs₀ Bits _ _ = @Cert.KernelIdeal.defs₀ Bits _ _ := by
  funext p
  cases p with
  | tc =>
    funext l a
    match l, a with
    | ⟨0, _⟩, (t, s) => rfl
  | scScalar _ => rfl
  | scVector _ _ => rfl

/-- And so do the tables with the pipelines' own labels added. -/
theorem defs_same : @Cert.Kernel.defs Bits _ _ = @Cert.KernelIdeal.defs Bits _ _ := by
  unfold Cert.Kernel.defs
  rw [bodies_same]
  rfl
end Cert.Proof
end
end
-- ==== Proof.Halves.lean ====
module

public import proofs.«01_k».proof.Proof.Body
public import proofs.«01_k».proof.Proof.Gen.KernelIdeal.Regions
public import Idealize.ShloMosaic.Lib.Claim
public import Idealize.ShloMosaic.Lib.DynamicIndex

/-! What the host code hands the kernel: on every device the half of its columns that its place along y names. -/

@[expose] public section

noncomputable section

namespace Cert.Talk

open Idealize.ShloMosaic Idealize.ShloMosaic.TcCoe
open Idealize.SL.Sem
open Cert.KernelIdeal Cert.KernelIdeal.Gen

variable {F : FTy → Type} [FloatOps F]
variable (m : (ℓ : Loc nD τ sig) → Buf (Elt F) ℓ)

/-- The first column of a device's half, as the host code computes it. -/
def firstCol (c : Dev nD) : IVec S_ 32 :=
  let p : IVec S_ 32 := muli (Host.remui (Host.divui (constantI S_ 32 (Dev.word c)) (constantI S_ 32 1#32)) (constantI S_ 32 2#32)) (constantI S_ 32 4096#32)
  select (cmpi .slt p (constantI S_ 32 0#32)) (addi p (constantI S_ 32 8192#32)) p

/-- The left operand handed over: a slice of the device's columns from there. -/
theorem v15_eq (c : Dev nD) : V1 m c main_v15 = (truncf .bf16 (Host.dynamicSlice S2048x4096 (m (c, Proc.devRef .tc main_arg0) : FVec F S2048x8192 .f32)
    (fun k => ((![constantI S_ 32 0#32, firstCol c] : Fin 2 → IVec S_ 32) k (Shape.Idx.first h_S_)).toInt) sliceFits_S2048x8192_S2048x4096 : FVec F S2048x4096 .f32) bitsLt_bf16_f32 : FVec F S2048x4096 .bf16) := by
  show StableHlo.after (hostOps0 c) (V0 m c) (Proc.devRef .tc main_v15) = _
  after_results_simp
  refine congrArg (fun st => (truncf .bf16 (Host.dynamicSlice S2048x4096 (m (c, Proc.devRef .tc main_arg0) : FVec F S2048x8192 .f32) st sliceFits_S2048x8192_S2048x4096 : FVec F S2048x4096 .f32) bitsLt_bf16_f32 : FVec F S2048x4096 .bf16)) (funext fun k => ?_)
  refine congrArg (fun w : IVec S_ 32 => (w (Shape.Idx.first h_S_)).toInt) ?_
  match k with
  | 0 =>
    refine (cast_eq _ _).trans ?_
    show _ = constantI S_ 32 0#32
    simp only [Matrix.cons_val_zero]
    after_results_simp
  | 1 =>
    refine (cast_eq _ _).trans ?_
    show _ = firstCol c
    simp only [Matrix.cons_val_one]
    after_results_simp
    rfl

/-- The right operand likewise. -/
theorem v16_eq (c : Dev nD) : V1 m c main_v16 = (truncf .bf16 (Host.dynamicSlice S2048x4096 (m (c, Proc.devRef .tc main_arg1) : FVec F S2048x8192 .f32)
    (fun k => ((![constantI S_ 32 0#32, firstCol c] : Fin 2 → IVec S_ 32) k (Shape.Idx.first h_S_)).toInt) sliceFits_S2048x8192_S2048x4096 : FVec F S2048x4096 .f32) bitsLt_bf16_f32 : FVec F S2048x4096 .bf16) := by
  show StableHlo.after (hostOps0 c) (V0 m c) (Proc.devRef .tc main_v16) = _
  after_results_simp
  refine congrArg (fun st => (truncf .bf16 (Host.dynamicSlice S2048x4096 (m (c, Proc.devRef .tc main_arg1) : FVec F S2048x8192 .f32) st sliceFits_S2048x8192_S2048x4096 : FVec F S2048x4096 .f32) bitsLt_bf16_f32 : FVec F S2048x4096 .bf16)) (funext fun k => ?_)
  refine congrArg (fun w : IVec S_ 32 => (w (Shape.Idx.first h_S_)).toInt) ?_
  match k with
  | 0 =>
    refine (cast_eq _ _).trans ?_
    show _ = constantI S_ 32 0#32
    simp only [Matrix.cons_val_zero]
    after_results_simp
  | 1 =>
    refine (cast_eq _ _).trans ?_
    show _ = firstCol c
    simp only [Matrix.cons_val_one]
    after_results_simp
    rfl

/-- The start is the device's place along y times the half's width. -/
theorem firstCol_val (c : Dev nD) : ((firstCol c) (Shape.Idx.first h_S_)).toInt = ((4096 * (c.val % 2) : ℕ) : ℤ) := by
  revert c; decide

theorem slice_at (c : Dev nD) (X : S2048x8192.Idx → Elt F .f32) (i : S2048x4096.Idx) :
    Host.dynamicSlice S2048x4096 X (fun k => ((![constantI S_ 32 0#32, firstCol c] : Fin 2 → IVec S_ 32) k (Shape.Idx.first h_S_)).toInt)
      sliceFits_S2048x8192_S2048x4096 i = X (at2 2048 8192 (by decide) (by decide) (i 0).val (4096 * (c.val % 2) + (i 1).val)) := by
  have hs : S2048x8192.Slices (![0, 4096 * (c.val % 2)] : Fin 2 → ℕ) S2048x4096 := by revert c; decide
  rw [Host.dynamicSlice_eq_extractStridedSlice S2048x4096 X _ (![0, 4096 * (c.val % 2)] : Fin 2 → ℕ) _ hs (fun a => by
    match a with
    | 0 => rfl
    | 1 => exact firstCol_val c)]
  have h0 : (i 0).val < 2048 := (i 0).isLt
  have h1 : (i 1).val < 4096 := (i 1).isLt
  unfold extractStridedSlice
  congr 1
  funext a
  match a with
  | 0 => exact Fin.ext (by show 0 + (i 0).val = (i 0).val % 2048; omega)
  | 1 => exact Fin.ext (by show 4096 * (c.val % 2) + (i 1).val = (4096 * (c.val % 2) + (i 1).val) % 8192; omega)

end Cert.Talk
end
end
-- ==== Proof.Tiles.lean ====
module

public import proofs.«01_k».proof.Proof.Halves
public import Idealize.ShloMosaic.Lib.Pointwise
public import Idealize.ShloMosaic.Lib.ValueIdx

/-! What a tile holds, over the reals: an entry of it is the sum, over the columns that the device was handed, of the
products of a row of the left operand with a row of the right one. -/

@[expose] public section

noncomputable section

namespace Cert.Talk

open Idealize.ShloMosaic Idealize.ShloMosaic.TcCoe
open Idealize.SL.Sem
open Cert.KernelIdeal Cert.KernelIdeal.Gen

variable {F : FTy → Type} [FloatOps F]
variable (V : Dev nD → Valuation τ sig (Elt F))

/-- An index is the one its coordinates name. -/
theorem at2_self (m n : ℕ) (hm : 0 < m) (hn : 0 < n) (i : (⟨2, ![m, n]⟩ : Shape).Idx) : at2 m n hm hn (i 0).val (i 1).val = i := by
  have h0 : (i 0).val < m := (i 0).isLt
  have h1 : (i 1).val < n := (i 1).isLt
  funext a
  match a with
  | 0 => exact Fin.ext (Nat.mod_eq_of_lt h0)
  | 1 => exact Fin.ext (Nat.mod_eq_of_lt h1)

/-- The left operand's block is the whole of it. -/
theorem blk0_at (c : Dev nD) (t : Fin cfg0.N) (i : S2048x4096.Idx) : blk0 V c t i = V c main_v15 i := by
  show V c main_v15 ((win0_0.blk t).view.emb i) = V c main_v15 i
  congr 1
  funext a
  apply Fin.ext
  show win0_0.index t a * S2048x4096.size a + 1 * (i a).val = (i a).val
  have : win0_0.index t a = 0 := by
    match a with
    | 0 => revert t; decide +kernel
    | 1 => revert t; decide +kernel
  rw [this]; omega

/-- The right operand's block at grid point `2 t + k`: rows from `1024 (t % 2)`, columns from `2048 k`. -/
theorem blk1_at (c : Dev nD) (t : Fin cfg0.N) (i : S1024x2048.Idx) :
    blk1 V c t i = V c main_v16 (at2 2048 4096 (by decide) (by decide) (1024 * (t.val / 2 % 2) + (i 0).val) (2048 * (t.val % 2) + (i 1).val)) := by
  show V c main_v16 ((win0_1.blk t).view.emb i) = _
  congr 1
  have h0 : (i 0).val < 1024 := (i 0).isLt
  have h1 : (i 1).val < 2048 := (i 1).isLt
  funext a
  apply Fin.ext
  show win0_1.index t a * S1024x2048.size a + 1 * (i a).val = _
  match a with
  | 0 =>
    have : win0_1.index t 0 = t.val / 2 % 2 := by revert t; decide +kernel
    rw [this]
    show t.val / 2 % 2 * 1024 + 1 * (i 0).val = (1024 * (t.val / 2 % 2) + (i 0).val) % 2048
    omega
  | 1 =>
    have : win0_1.index t 1 = t.val % 2 := by revert t; decide +kernel
    rw [this]
    show t.val % 2 * 2048 + 1 * (i 1).val = (2048 * (t.val % 2) + (i 1).val) % 4096
    omega

/-- The row block of the result that device `c` computes in grid row `t`. -/
def rowOf (c : Dev nD) (t : ℕ) : ℕ :=
  if t = 0 then 1 - c.val % 2 else if t = 1 then 1 - c.val / 2 else if t = 2 then c.val % 2 else c.val / 2

theorem rowOf_lt (c : Dev nD) (t : ℕ) : rowOf c t < 2 := by
  have := c.isLt
  have : c.val < 4 := c.isLt
  unfold rowOf; split_ifs <;> omega

theorem coord0 (t : Fin cfg0.N) : (grid0.coords t 0).val = t.val / 2 := by revert t; decide +kernel
theorem coord1 (t : Fin cfg0.N) : (grid0.coords t 1).val = t.val % 2 := by revert t; decide +kernel

theorem dyAt_at (t : Fin cfg0.N) (c : Dev nD) (X : S2048x4096.Idx → Elt F .bf16) (j : S1024x2048.Idx) :
    dyAt (grid0.coords t) c X j = X (at2 2048 4096 (by decide) (by decide) (1024 * rowOf c (t.val / 2) + (j 0).val) (2048 * (t.val % 2) + (j 1).val)) := by
  unfold dyAt
  congr 1
  have h0 : (j 0).val < 1024 := (j 0).isLt
  have h1 : (j 1).val < 2048 := (j 1).isLt
  have hr := rowOf_lt c (t.val / 2)
  have g0 := coord0 t
  have g1 := coord1 t
  funext a
  apply Fin.ext
  show k0_off1 (grid0.coords t) c a + 1 * (j a).val = _
  match a with
  | 0 =>
    have : k0_off1 (grid0.coords t) c 0 = 1024 * rowOf c (t.val / 2) := by rw [k0_off1_eq, g0, g1]; rfl
    rw [this]
    show 1024 * rowOf c (t.val / 2) + 1 * (j 0).val = (1024 * rowOf c (t.val / 2) + (j 0).val) % 2048
    omega
  | 1 =>
    have : k0_off1 (grid0.coords t) c 1 = 2048 * (t.val % 2) := by rw [k0_off1_eq, g0, g1]; rfl
    rw [this]
    show 2048 * (t.val % 2) + 1 * (j 1).val = (2048 * (t.val % 2) + (j 1).val) % 4096
    omega

theorem wAt_at (X : S1024x2048.Idx → Elt F .bf16) : wAt X = X := by
  funext j
  unfold wAt
  congr 1
  funext a
  apply Fin.ext
  match a with
  | 0 => show 0 + 1 * (j 0).val = (j 0).val; omega
  | 1 => show 0 + 1 * (j 1).val = (j 1).val; omega

/-! ## Over the reals -/

/-- One product of two blocks, at an entry. -/
theorem pay11_at (x y : S1024x2048.Idx → EReal) (j : S1024x1024.Idx) :
    (k0_pay11 (F := Ideal) x y : S1024x1024.Idx → EReal) j
      = ∑ k ∈ Finset.range 2048, x (at2 1024 2048 (by decide) (by decide) (j 0).val k) * y (at2 1024 2048 (by decide) (by decide) (j 1).val k) := by
  unfold k0_pay11
  simp only [pointwise]
  rw [zero_add, ← Fin.sum_univ_eq_sum_range (fun k => x (at2 1024 2048 (by decide) (by decide) (j 0).val k) * y (at2 1024 2048 (by decide) (by decide) (j 1).val k))]
  refine Finset.sum_congr rfl fun k _ => ?_
  rw [show (ix2 (j 0) k : S1024x2048.Idx) = at2 1024 2048 (by decide) (by decide) (j 0).val k from (at2_self _ _ _ _ (ix2 (j 0) k)).symm,
    show (ix2 (j 1) k : S1024x2048.Idx) = at2 1024 2048 (by decide) (by decide) (j 1).val k from (at2_self _ _ _ _ (ix2 (j 1) k)).symm]

section Reals

variable (V : Dev nD → Valuation τ sig (Elt Ideal))

/-- The two operands as the host code hands them over. -/
def lft (c : Dev nD) : S2048x4096.Idx → EReal := V c main_v15
def rgt (c : Dev nD) : S2048x4096.Idx → EReal := V c main_v16

/-- The product of an entry of row `r` of the left operand with one of row `s` of the right, in column `k`. -/
def prodAt (c : Dev nD) (r s k : ℕ) : EReal :=
  lft V c (at2 2048 4096 (by decide) (by decide) r k)
    * rgt V c (at2 2048 4096 (by decide) (by decide) s k)

/-- What one grid point computes. -/
theorem part_at (c : Dev nD) (t : Fin cfg0.N) (j : S1024x1024.Idx) :
    (k0_pay11 (F := Ideal) (k0_pay9 (dyAt (grid0.coords t) c (blk0 V c t))) (k0_pay10 (wAt (blk1 V c t))) : S1024x1024.Idx → EReal) j
      = ∑ k ∈ Finset.range 2048, prodAt V c (1024 * rowOf c (t.val / 2) + (j 0).val) (1024 * (t.val / 2 % 2) + (j 1).val) (2048 * (t.val % 2) + k) := by
  have h0 : (j 0).val < 1024 := (j 0).isLt
  have h1 : (j 1).val < 1024 := (j 1).isLt
  have e9 : k0_pay9 (dyAt (grid0.coords t) c (blk0 V c t)) = dyAt (grid0.coords t) c (blk0 V c t) := by unfold k0_pay9; exact shapeCast_self _ _
  have e10 : k0_pay10 (wAt (blk1 V c t)) = blk1 V c t := by unfold k0_pay10; rw [wAt_at]; exact shapeCast_self _ _
  rw [e9, e10, pay11_at]
  refine Finset.sum_congr rfl fun k hk => ?_
  have hk : k < 2048 := Finset.mem_range.mp hk
  rw [dyAt_at, blk0_at, blk1_at]
  show lft V c _ * rgt V c _ = prodAt V c _ _ _
  unfold prodAt
  rw [show ((at2 1024 2048 (by decide) (by decide) (j 0).val k : S1024x2048.Idx) 0).val = (j 0).val from Nat.mod_eq_of_lt h0,
    show ((at2 1024 2048 (by decide) (by decide) (j 0).val k : S1024x2048.Idx) 1).val = k from Nat.mod_eq_of_lt hk,
    show ((at2 1024 2048 (by decide) (by decide) (j 1).val k : S1024x2048.Idx) 0).val = (j 1).val from Nat.mod_eq_of_lt h1,
    show ((at2 1024 2048 (by decide) (by decide) (j 1).val k : S1024x2048.Idx) 1).val = k from Nat.mod_eq_of_lt hk]

/-- What two points of one grid row leave as its tile. -/
theorem tileAt_at (c : Dev nD) (t t' : Fin cfg0.N) (n : ℕ) (h : t.val = 2 * n) (h' : t'.val = 2 * n + 1) (j : S1024x1024.Idx) :
    (tileAt V c t t' : S1024x1024.Idx → EReal) j
      = ∑ k ∈ Finset.range 4096, prodAt V c (1024 * rowOf c n + (j 0).val) (1024 * (n % 2) + (j 1).val) k := by
  have e : (tileAt V c t t' : S1024x1024.Idx → EReal) j
      = (k0_pay11 (F := Ideal) (k0_pay9 (dyAt (grid0.coords t) c (blk0 V c t))) (k0_pay10 (wAt (blk1 V c t))) : S1024x1024.Idx → EReal) j
        + (k0_pay11 (F := Ideal) (k0_pay9 (dyAt (grid0.coords t') c (blk0 V c t'))) (k0_pay10 (wAt (blk1 V c t'))) : S1024x1024.Idx → EReal) j := by
    unfold tileAt tileOf accAt accOf k0_pay13 k0_pay12
    simp only [shapeCast_self]
    rfl
  rw [e, part_at, part_at, show (4096 : ℕ) = 2048 + 2048 from rfl, Finset.sum_range_add,
    show t.val / 2 = n by omega, show t'.val / 2 = n by omega, show t.val % 2 = 0 by omega, show t'.val % 2 = 1 by omega]
  simp only [Nat.mul_zero, Nat.zero_add, Nat.mul_one]

/-- The four tiles. -/
theorem TT_at (c : Dev nD) (n : Fin 4) (j : S1024x1024.Idx) :
    (TT V c n : S1024x1024.Idx → EReal) j
      = ∑ k ∈ Finset.range 4096, prodAt V c (1024 * rowOf c n.val + (j 0).val) (1024 * (n.val % 2) + (j 1).val) k :=
  match n with
  | 0 => tileAt_at V c t0_0 t0_1 0 rfl rfl j
  | 1 => tileAt_at V c t0_2 t0_3 1 rfl rfl j
  | 2 => tileAt_at V c t0_4 t0_5 2 rfl rfl j
  | 3 => tileAt_at V c t0_6 t0_7 3 rfl rfl j

end Reals

end Cert.Talk
end
end
-- ==== Proof.Total.lean ====
module

public import proofs.«01_k».proof.Proof.Tiles

/-! What the exchange leaves, over the reals: every entry of the result is the sum of the four devices' products. -/

@[expose] public section

noncomputable section

namespace Cert.Talk

open Idealize.ShloMosaic Idealize.ShloMosaic.TcCoe
open Idealize.SL.Sem
open Cert.KernelIdeal Cert.KernelIdeal.Gen

section Sums

variable (T : Dev nD → Fin 4 → Tile Ideal)

/-- A tile's entry as an extended real. -/
def ent (X : Tile Ideal) : S1024x1024.Idx → EReal := X

/-! Each addition, at an entry. -/

theorem k0_pay1_at (X : Vec Ideal S1x1024x1024 .bf16) (Y : Vec Ideal S1024x1024 .bf16) (j : S1024x1024.Idx) :
    (k0_pay1 (F := Ideal) X Y : S1024x1024.Idx → EReal) j = (Y : S1024x1024.Idx → EReal) j + (shapeCast S1024x1024 X shapeCasts_S1x1024x1024_S1024x1024 : S1024x1024.Idx → EReal) j := by
  unfold k0_pay1
  simp only [shapeCast_self]
  rfl
theorem k0_pay2_at (X : Vec Ideal S1x1024x1024 .bf16) (Y : Vec Ideal S1024x1024 .bf16) (j : S1024x1024.Idx) :
    (k0_pay2 (F := Ideal) X Y : S1024x1024.Idx → EReal) j = (Y : S1024x1024.Idx → EReal) j + (shapeCast S1024x1024 X shapeCasts_S1x1024x1024_S1024x1024 : S1024x1024.Idx → EReal) j := by
  unfold k0_pay2
  simp only [shapeCast_self]
  rfl
theorem k0_pay3_at (X : Vec Ideal S1x512x1024 .bf16) (Y : Vec Ideal S512x1024 .bf16) (j : S512x1024.Idx) :
    (k0_pay3 (F := Ideal) X Y : S512x1024.Idx → EReal) j = (Y : S512x1024.Idx → EReal) j + (shapeCast S512x1024 X shapeCasts_S1x512x1024_S512x1024 : S512x1024.Idx → EReal) j := by
  unfold k0_pay3
  simp only [shapeCast_self]
  rfl
theorem k0_pay4_at (X : Vec Ideal S1x512x1024 .bf16) (Y : Vec Ideal S512x1024 .bf16) (j : S512x1024.Idx) :
    (k0_pay4 (F := Ideal) X Y : S512x1024.Idx → EReal) j = (Y : S512x1024.Idx → EReal) j + (shapeCast S512x1024 X shapeCasts_S1x512x1024_S512x1024 : S512x1024.Idx → EReal) j := by
  unfold k0_pay4
  simp only [shapeCast_self]
  rfl

theorem B0_at (c : Dev nD) (j : S1024x1024.Idx) : ent (B0 T c) j = ent (T c 2) j + ent (T (yn c) 0) j :=
  (k0_pay1_at _ _ j).trans (congrArg (ent (T c 2) j + ·) (congrFun (shapeCast_unsq _ (T (yn c) 0) _) j))
theorem B1_at (c : Dev nD) (j : S1024x1024.Idx) : ent (B1 T c) j = ent (T c 3) j + ent (T (xn c) 1) j :=
  (k0_pay2_at _ _ j).trans (congrArg (ent (T c 3) j + ·) (congrFun (shapeCast_unsq _ (T (xn c) 1) _) j))
theorem Q0_at (c : Dev nD) (i : S512x1024.Idx) : (Q0 T c : S512x1024.Idx → EReal) i
    = ent (B0 T c) (at2 1024 1024 (by decide) (by decide) (512 * (c.val / 2) + (i 0).val) (i 1).val)
      + ent (B0 T (xn c)) (at2 1024 1024 (by decide) (by decide) (512 * (c.val / 2) + (i 0).val) (i 1).val) :=
  (k0_pay3_at _ _ i).trans (congrArg (ent (B0 T c) _ + ·) (congrFun (shapeCast_unsq _ (half (c.val / 2) (B0 T (xn c))) _) i))
theorem Q1_at (c : Dev nD) (i : S512x1024.Idx) : (Q1 T c : S512x1024.Idx → EReal) i
    = ent (B1 T c) (at2 1024 1024 (by decide) (by decide) (512 * (c.val % 2) + (i 0).val) (i 1).val)
      + ent (B1 T (yn c)) (at2 1024 1024 (by decide) (by decide) (512 * (c.val % 2) + (i 0).val) (i 1).val) :=
  (k0_pay4_at _ _ i).trans (congrArg (ent (B1 T c) _ + ·) (congrFun (shapeCast_unsq _ (half (c.val % 2) (B1 T (yn c))) _) i))

/-- The neighbours' places. -/
theorem places (d : Dev nD) : (xn d).val % 2 = d.val % 2 ∧ (yn d).val % 2 = 1 - d.val % 2 ∧ (yn (xn d)).val % 2 = 1 - d.val % 2
    ∧ (yn d).val / 2 = d.val / 2 ∧ (xn d).val / 2 = 1 - d.val / 2 ∧ (xn (yn d)).val / 2 = 1 - d.val / 2 := by revert d; decide

/-- The four devices from one of them. -/
theorem sum_around (f : Dev nD → EReal) (d : Dev nD) : f d + f (yn d) + (f (xn d) + f (yn (xn d))) = ∑ c : Dev nD, f c := by
  have e : ∀ d : Dev nD, (d = 0 ∧ yn d = 1 ∧ xn d = 2 ∧ yn (xn d) = 3) ∨ (d = 1 ∧ yn d = 0 ∧ xn d = 3 ∧ yn (xn d) = 2)
      ∨ (d = 2 ∧ yn d = 3 ∧ xn d = 0 ∧ yn (xn d) = 1) ∨ (d = 3 ∧ yn d = 2 ∧ xn d = 1 ∧ yn (xn d) = 0) := by decide
  have s : ∑ c : Dev nD, f c = f 0 + f 1 + f 2 + f 3 := Fin.sum_univ_four f
  rw [s]
  rcases e d with ⟨a, b, c, d⟩ | ⟨a, b, c, d⟩ | ⟨a, b, c, d⟩ | ⟨a, b, c, d⟩ <;> rw [d, b, c] <;> simp only [a] <;> ac_rfl
theorem sum_around' (f : Dev nD → EReal) (d : Dev nD) : f d + f (xn d) + (f (yn d) + f (xn (yn d))) = ∑ c : Dev nD, f c := by
  rw [← sum_around f d, show xn (yn d) = yn (xn d) by revert d; decide]
  ac_rfl

end Sums

section Result

variable (V : Dev nD → Valuation τ sig (Elt Ideal))

/-- One device's share of an entry of the result. -/
def share (r s : ℕ) (c : Dev nD) : EReal := ∑ k ∈ Finset.range 4096, prodAt V c r s k

theorem tile_share (c : Dev nD) (n : Fin 4) (a b r s : ℕ) (ha : a < 1024) (hb : b < 1024)
    (hr : 1024 * rowOf c n.val + a = r) (hs : 1024 * (n.val % 2) + b = s) :
    ent (TT V c n) (at2 1024 1024 (by decide) (by decide) a b) = share V r s c := by
  subst hr hs
  refine (TT_at V c n _).trans ?_
  rw [show ((at2 1024 1024 (by decide) (by decide) a b : S1024x1024.Idx) 0).val = a from Nat.mod_eq_of_lt ha,
    show ((at2 1024 1024 (by decide) (by decide) a b : S1024x1024.Idx) 1).val = b from Nat.mod_eq_of_lt hb]
  rfl

/-- The result, at an entry. -/
theorem Out_at (i : S2048x2048.Idx) : (Out (TT V) : S2048x2048.Idx → EReal) i = ∑ c : Dev nD, share V (i 0).val (i 1).val c := by
  have h0 : (i 0).val < 2048 := (i 0).isLt
  have h1 : (i 1).val < 2048 := (i 1).isLt
  show (G (TT V) : S2048x2048.Idx → EReal) i = _
  unfold G
  split
  · rename_i hlt
    obtain ⟨d, hd⟩ : ∃ d, dv ((i 0).val % 1024 / 512) ((i 0).val / 1024) = d := ⟨_, rfl⟩
    have d2 : d.val / 2 = (i 0).val % 1024 / 512 := by rw [← hd]; show (2 * _ + _) / 2 = _; omega
    have d1 : d.val % 2 = (i 0).val / 1024 := by rw [← hd]; show (2 * _ + _) % 2 = _; omega
    rw [hd]
    refine (Q0_at (TT V) d _).trans ?_
    rw [show ((at2 512 1024 (by decide) (by decide) (i 0).val (i 1).val : S512x1024.Idx) 0).val = (i 0).val % 512 from rfl,
      show ((at2 512 1024 (by decide) (by decide) (i 0).val (i 1).val : S512x1024.Idx) 1).val = (i 1).val from Nat.mod_eq_of_lt hlt,
      B0_at, B0_at, ← sum_around (share V (i 0).val (i 1).val) d]
    obtain ⟨xv, yv, xyv, -, -, -⟩ := places d
    have dl : d.val % 2 < 2 := Nat.mod_lt _ (by decide)
    rw [tile_share V d 2 _ _ (i 0).val (i 1).val (by omega) hlt (by show 1024 * (d.val % 2) + _ = _; omega) (by show 1024 * 0 + _ = _; omega),
      tile_share V (xn d) 2 _ _ (i 0).val (i 1).val (by omega) hlt (by show 1024 * ((xn d).val % 2) + _ = _; omega) (by show 1024 * 0 + _ = _; omega),
      tile_share V (yn d) 0 _ _ (i 0).val (i 1).val (by omega) hlt (by show 1024 * (1 - (yn d).val % 2) + _ = _; omega) (by show 1024 * 0 + _ = _; omega),
      tile_share V (yn (xn d)) 0 _ _ (i 0).val (i 1).val (by omega) hlt (by show 1024 * (1 - (yn (xn d)).val % 2) + _ = _; omega) (by show 1024 * 0 + _ = _; omega)]
  · rename_i hlt
    obtain ⟨d, hd⟩ : ∃ d, dv ((i 0).val / 1024) ((i 0).val % 1024 / 512) = d := ⟨_, rfl⟩
    have d2 : d.val / 2 = (i 0).val / 1024 := by rw [← hd]; show (2 * _ + _) / 2 = _; omega
    have d1 : d.val % 2 = (i 0).val % 1024 / 512 := by rw [← hd]; show (2 * _ + _) % 2 = _; omega
    rw [hd]
    refine (Q1_at (TT V) d _).trans ?_
    rw [show ((at2 512 1024 (by decide) (by decide) (i 0).val (i 1).val : S512x1024.Idx) 0).val = (i 0).val % 512 from rfl,
      show ((at2 512 1024 (by decide) (by decide) (i 0).val (i 1).val : S512x1024.Idx) 1).val = (i 1).val % 1024 from rfl,
      B1_at, B1_at, ← sum_around' (share V (i 0).val (i 1).val) d]
    obtain ⟨-, -, -, xv, yv, xyv⟩ := places d
    have dl : d.val / 2 < 2 := by have : d.val < 4 := d.isLt; omega
    rw [tile_share V d 3 _ _ (i 0).val (i 1).val (by omega) (by omega) (by show 1024 * (d.val / 2) + _ = _; omega) (by show 1024 * 1 + _ = _; omega),
      tile_share V (yn d) 3 _ _ (i 0).val (i 1).val (by omega) (by omega) (by show 1024 * ((yn d).val / 2) + _ = _; omega) (by show 1024 * 1 + _ = _; omega),
      tile_share V (xn d) 1 _ _ (i 0).val (i 1).val (by omega) (by omega) (by show 1024 * (1 - (xn d).val / 2) + _ = _; omega) (by show 1024 * 1 + _ = _; omega),
      tile_share V (xn (yn d)) 1 _ _ (i 0).val (i 1).val (by omega) (by omega) (by show 1024 * (1 - (xn (yn d)).val / 2) + _ = _; omega) (by show 1024 * 1 + _ = _; omega)]

end Result

end Cert.Talk
end
end
-- ==== Proof.Equal.lean ====
module

public import proofs.«01_k».proof.Proof.Total
public import proofs.«01_k».proof.Proof.Gen.ReferenceIdeal.Run
public import Idealize.ShloMosaic.Lib.Layout

/-! The equation: the kernel's result, over the reals, is the product of the whole arrays. -/

@[expose] public section

noncomputable section

namespace Cert.Talk

open Idealize.ShloMosaic Idealize.ShloMosaic.TcCoe
open Idealize.SL.Sem

/-- The shape of a whole operand. -/
abbrev SW : Shape := ⟨2, ![2048, 16384]⟩

/-- An entry of the product of `A` with `B` transposed. -/
def entry (A B : SW.Idx → EReal) (r s : ℕ) (k : ℕ) : EReal :=
  A (at2 2048 16384 (by decide) (by decide) r k) * B (at2 2048 16384 (by decide) (by decide) s k)

section Kernel

open Cert.KernelIdeal Cert.KernelIdeal.Gen

variable (m : (ℓ : Loc nD τ sig) → Buf (Elt Ideal) ℓ)

/-- A device's own columns of the two operands. -/
def own0 (c : Dev nD) : S2048x8192.Idx → EReal := m (c, Proc.devRef .tc main_arg0)
def own1 (c : Dev nD) : S2048x8192.Idx → EReal := m (c, Proc.devRef .tc main_arg1)

theorem lft_at (c : Dev nD) (i : S2048x4096.Idx) :
    lft (V1 m) c i = own0 m c (at2 2048 8192 (by decide) (by decide) (i 0).val (4096 * (c.val % 2) + (i 1).val)) := by
  unfold lft
  rw [v15_eq]
  exact slice_at c (m (c, Proc.devRef .tc main_arg0)) i
theorem rgt_at (c : Dev nD) (i : S2048x4096.Idx) :
    rgt (V1 m) c i = own1 m c (at2 2048 8192 (by decide) (by decide) (i 0).val (4096 * (c.val % 2) + (i 1).val)) := by
  unfold rgt
  rw [v16_eq]
  exact slice_at c (m (c, Proc.devRef .tc main_arg1)) i

variable (A B : SW.Idx → EReal)
  (hA : ∀ (c : Dev nD) (i : S2048x8192.Idx), own0 m c i = A (at2 2048 16384 (by decide) (by decide) (i 0).val (8192 * (c.val / 2) + (i 1).val)))
  (hB : ∀ (c : Dev nD) (i : S2048x8192.Idx), own1 m c i = B (at2 2048 16384 (by decide) (by decide) (i 0).val (8192 * (c.val / 2) + (i 1).val)))

include hA hB in
/-- A device's share is the sum over its quarter of the columns. -/
theorem share_at (r s : ℕ) (hr : r < 2048) (hs : s < 2048) (c : Dev nD) :
    share (V1 m) r s c = ∑ k ∈ Finset.range 4096, entry A B r s (4096 * c.val + k) := by
  unfold share
  refine Finset.sum_congr rfl fun k hk => ?_
  have hk : k < 4096 := Finset.mem_range.mp hk
  have hc : c.val < 4 := c.isLt
  have place (a : ℕ) (ha : a < 2048) : (at2 2048 16384 (by decide) (by decide)
      ((at2 2048 8192 (by decide) (by decide) ((at2 2048 4096 (by decide) (by decide) a k : S2048x4096.Idx) 0).val
        (4096 * (c.val % 2) + ((at2 2048 4096 (by decide) (by decide) a k : S2048x4096.Idx) 1).val) : S2048x8192.Idx) 0).val
      (8192 * (c.val / 2) + ((at2 2048 8192 (by decide) (by decide) ((at2 2048 4096 (by decide) (by decide) a k : S2048x4096.Idx) 0).val
        (4096 * (c.val % 2) + ((at2 2048 4096 (by decide) (by decide) a k : S2048x4096.Idx) 1).val) : S2048x8192.Idx) 1).val) : SW.Idx)
      = at2 2048 16384 (by decide) (by decide) a (4096 * c.val + k) := by
    funext b
    match b with
    | 0 => exact Fin.ext (by show a % 2048 % 2048 % 2048 = a % 2048; omega)
    | 1 => exact Fin.ext (by show (8192 * (c.val / 2) + (4096 * (c.val % 2) + k % 4096) % 8192) % 16384 = (4096 * c.val + k) % 16384; omega)
  unfold prodAt entry
  rw [lft_at, rgt_at, hA, hB, place r hr, place s hs]

include hA hB in
/-- All four shares make the sum over all columns. -/
theorem Out_entry (i : S2048x2048.Idx) :
    (Out (TT (V1 m)) : S2048x2048.Idx → EReal) i = ∑ k ∈ Finset.range 16384, entry A B (i 0).val (i 1).val k := by
  have h0 : (i 0).val < 2048 := (i 0).isLt
  have h1 : (i 1).val < 2048 := (i 1).isLt
  rw [Out_at]
  simp only [share_at m A B hA hB _ _ h0 h1]
  refine (Fin.sum_univ_four _).trans ?_
  rw [show (16384 : ℕ) = 4096 + 4096 + 4096 + 4096 from rfl, Finset.sum_range_add, Finset.sum_range_add, Finset.sum_range_add]
  simp only [show ((0 : Dev nD).val) = 0 from rfl, show ((1 : Dev nD).val) = 1 from rfl, show ((2 : Dev nD).val) = 2 from rfl,
    show ((3 : Dev nD).val) = 3 from rfl, Nat.mul_zero, Nat.zero_add, Nat.mul_one]

end Kernel

section Reference

open Cert.ReferenceIdeal Cert.ReferenceIdeal.Gen

/-- The reference's result, at an entry. -/
theorem ref_entry (A B : FVec Ideal S2048x16384 .f32) (i : S2048x2048.Idx) :
    (Host.dotGeneral dot_S2048x16384_S16384x2048_S2048x2048_1_0_0_1_n_n none A
      (transpose S16384x2048 [1, 0] B transposes_S2048x16384_S16384x2048_1_0) : S2048x2048.Idx → EReal) i
      = ∑ k ∈ Finset.range 16384, entry A B (i 0).val (i 1).val k := by
  rw [← Fin.sum_univ_eq_sum_range (fun k => entry A B (i 0).val (i 1).val k)]
  simp only [pointwise]
  rw [zero_add]
  refine Finset.sum_congr rfl fun k _ => ?_
  unfold entry
  rw [show (at2 2048 16384 (by decide) (by decide) (i 0).val k.val : SW.Idx) = ix2 (i 0) k from at2_self _ _ _ _ (ix2 (i 0) k),
    show (at2 2048 16384 (by decide) (by decide) (i 1).val k.val : SW.Idx) = ix2 (i 1) k from at2_self _ _ _ _ (ix2 (i 1) k)]
  rfl

end Reference

/-- A device's block of a whole array, cut along its columns by the x axis, at an index. -/
theorem block_at (c : Fin 4) (A : SW.Idx → EReal) (i : (⟨2, ![2048, 8192]⟩ : Shape).Idx) :
    (Layout.blockN ⟨2, ![2048, 8192]⟩ SW (Layout.meshBlock [2, 2] ![[], [0]] c) A : (⟨2, ![2048, 8192]⟩ : Shape).Idx → EReal) i
      = A (at2 2048 16384 (by decide) (by decide) (i 0).val (8192 * (c.val / 2) + (i 1).val)) := by
  have h0 : (i 0).val < 2048 := (i 0).isLt
  have h1 : (i 1).val < 8192 := (i 1).isLt
  rw [Layout.blockN_apply]
  congr 1
  funext b
  match b with
  | 0 =>
    refine Fin.ext ?_
    rw [Layout.TilesN.idx_val]
    have e : ((Layout.meshBlock [2, 2] ![[], [0]] c : (b : Fin 2) → Fin (Layout.cutSize [2, 2] ((![[], [0]] : Fin 2 → List Nat) b))) 0).val = 0 := by clear h0 h1 i; revert c; decide
    show ((Layout.meshBlock [2, 2] ![[], [0]] c : (b : Fin 2) → Fin (Layout.cutSize [2, 2] ((![[], [0]] : Fin 2 → List Nat) b))) 0).val * 2048 + (i 0).val = (i 0).val % 2048
    rw [e]; omega
  | 1 =>
    refine Fin.ext ?_
    rw [Layout.TilesN.idx_val]
    have e : ((Layout.meshBlock [2, 2] ![[], [0]] c : (b : Fin 2) → Fin (Layout.cutSize [2, 2] ((![[], [0]] : Fin 2 → List Nat) b))) 1).val = c.val / 2 := by clear h0 h1 i; revert c; decide
    show ((Layout.meshBlock [2, 2] ![[], [0]] c : (b : Fin 2) → Fin (Layout.cutSize [2, 2] ((![[], [0]] : Fin 2 → List Nat) b))) 1).val * 8192 + (i 1).val = (8192 * (c.val / 2) + (i 1).val) % 16384
    rw [e]
    have := c.isLt
    omega

end Cert.Talk
end
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Start
public import proofs.«01_k».proof.Proof.Same
public import proofs.«01_k».proof.Proof.Equal
public import Idealize.ShloMosaic.Adequacy
public import Idealize.ShloMosaic.Lib.Quiescent
public import Idealize.ShloMosaic.Init

/-! The claims. The run is proved once, at any float values (`Cert.Talk.run_main`), and both frames are read off it. -/

@[expose] public section

noncomputable section

namespace Cert.Proof

open Idealize.ShloMosaic Idealize.SL.Sem

/-- The ideal kernel runs, leaves its arguments and ends with every counter at zero. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.Talk.run_main (F := Ideal) m ρ)

/-- The same at the machine's words, of the ideal kernel's text. -/
theorem frame_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.Talk.run_main (F := Bits) m ρ)

/-- And so of the kernel's, which is the same text. -/
theorem frame_kernel : Cert.quiescent_Kernel (hKernel := Cert.Kernel.Gen.facts) := by
  intro m ρ _
  rw [defs_same]
  exact frame_bits m ρ

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on every device is the reference's, whatever the whole arrays hold. -/
theorem same_value : Cert.algebraic_KernelIdeal_ReferenceIdeal (hKernelIdeal := Cert.KernelIdeal.Gen.facts) (hReferenceIdeal := Cert.ReferenceIdeal.Gen.facts) := by
  intro m g m' g' _ hagree
  refine ⟨_, (θ_run Cert.KernelIdeal.defs _ _).mono (fun _ h c => ⟨(h.1 c).2.2.trans ?_, (h.1 c).1, (h.1 c).2.1⟩)
    (Cert.Talk.run_main (F := Ideal) m g), (θ_run Cert.ReferenceIdeal.defs _ _).mono (fun _ h => h 0) (Cert.ReferenceIdeal.Value.run (F := Ideal) m' g')⟩
  funext i
  refine (Cert.Talk.Out_entry m _ _ (fun c j => ?_) (fun c j => ?_) i).trans (Cert.Talk.ref_entry _ _ i).symm
  · exact (congrFun (hagree c).1 j).trans (Cert.Talk.block_at c _ j)
  · exact (congrFun (hagree c).2 j).trans (Cert.Talk.block_at c _ j)

/-- All the claims. -/
theorem claim : Cert.Claim := ⟨Cert.Kernel.Gen.facts, Cert.KernelIdeal.Gen.facts, Cert.ReferenceIdeal.Gen.facts,
  frame_kernel, frame_ideal, frame_reference, trivial, same_value⟩

end Cert.Proof

end
